-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaRefIdeal (m : (ℓ : Loc Cert.NaRefIdeal.nD Cert.NaRefIdeal.τ Cert.NaRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerRefIdeal (m : (ℓ : Loc Cert.PeerRefIdeal.nD Cert.PeerRefIdeal.τ Cert.PeerRefIdeal.sig) → Buf (Elt Ideal) ℓ) : Prop :=
  True

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3)
      ∧ r.2.mem ((c.tc : Thread Cert.Na.nD Cert.Na.τ).loc Cert.Na.main_arg4) = m ((c.tc : Thread Cert.Na.nD Cert.Na.τ).loc Cert.Na.main_arg4)
      ∧ r.2.mem ((c.tc : Thread Cert.Na.nD Cert.Na.τ).loc Cert.Na.main_arg5) = m ((c.tc : Thread Cert.Na.nD Cert.Na.τ).loc Cert.Na.main_arg5))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4)
      ∧ r.2.mem ((c.tc : Thread Cert.NaIdeal.nD Cert.NaIdeal.τ).loc Cert.NaIdeal.main_arg5) = m ((c.tc : Thread Cert.NaIdeal.nD Cert.NaIdeal.τ).loc Cert.NaIdeal.main_arg5))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4)
      ∧ r.2.mem ((c.tc : Thread Cert.NaRefIdeal.nD Cert.NaRefIdeal.τ).loc Cert.NaRefIdeal.main_arg5) = m ((c.tc : Thread Cert.NaRefIdeal.nD Cert.NaRefIdeal.τ).loc Cert.NaRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6)
      ∧ r.2.mem ((c.tc : Thread Cert.Peer.nD Cert.Peer.τ).loc Cert.Peer.main_arg7) = m ((c.tc : Thread Cert.Peer.nD Cert.Peer.τ).loc Cert.Peer.main_arg7)
      ∧ r.2.mem ((c.tc : Thread Cert.Peer.nD Cert.Peer.τ).loc Cert.Peer.main_arg8) = m ((c.tc : Thread Cert.Peer.nD Cert.Peer.τ).loc Cert.Peer.main_arg8)
      ∧ r.2.mem ((c.tc : Thread Cert.Peer.nD Cert.Peer.τ).loc Cert.Peer.main_arg9) = m ((c.tc : Thread Cert.Peer.nD Cert.Peer.τ).loc Cert.Peer.main_arg9)
      ∧ r.2.mem ((c.tc : Thread Cert.Peer.nD Cert.Peer.τ).loc Cert.Peer.main_arg10) = m ((c.tc : Thread Cert.Peer.nD Cert.Peer.τ).loc Cert.Peer.main_arg10))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
      ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
      ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8)
      ∧ r.2.mem ((c.tc : Thread Cert.PeerIdeal.nD Cert.PeerIdeal.τ).loc Cert.PeerIdeal.main_arg9) = m ((c.tc : Thread Cert.PeerIdeal.nD Cert.PeerIdeal.τ).loc Cert.PeerIdeal.main_arg9)
      ∧ r.2.mem ((c.tc : Thread Cert.PeerIdeal.nD Cert.PeerIdeal.τ).loc Cert.PeerIdeal.main_arg10) = m ((c.tc : Thread Cert.PeerIdeal.nD Cert.PeerIdeal.τ).loc Cert.PeerIdeal.main_arg10))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6)
      ∧ r.2.mem ((c.tc : Thread Cert.PeerRefIdeal.nD Cert.PeerRefIdeal.τ).loc Cert.PeerRefIdeal.main_arg7) = m ((c.tc : Thread Cert.PeerRefIdeal.nD Cert.PeerRefIdeal.τ).loc Cert.PeerRefIdeal.main_arg7)
      ∧ r.2.mem ((c.tc : Thread Cert.PeerRefIdeal.nD Cert.PeerRefIdeal.τ).loc Cert.PeerRefIdeal.main_arg8) = m ((c.tc : Thread Cert.PeerRefIdeal.nD Cert.PeerRefIdeal.τ).loc Cert.PeerRefIdeal.main_arg8)
      ∧ r.2.mem ((c.tc : Thread Cert.PeerRefIdeal.nD Cert.PeerRefIdeal.τ).loc Cert.PeerRefIdeal.main_arg9) = m ((c.tc : Thread Cert.PeerRefIdeal.nD Cert.PeerRefIdeal.τ).loc Cert.PeerRefIdeal.main_arg9)
      ∧ r.2.mem ((c.tc : Thread Cert.PeerRefIdeal.nD Cert.PeerRefIdeal.τ).loc Cert.PeerRefIdeal.main_arg10) = m ((c.tc : Thread Cert.PeerRefIdeal.nD Cert.PeerRefIdeal.τ).loc Cert.PeerRefIdeal.main_arg10))
      ∧ r.2.sem = fun _ => 0)

def preserves_Na_NaIdeal : Prop :=
  True

def algebraic_NaIdeal_NaRefIdeal [hNaIdeal : Cert.NaIdeal.Facts] [hNaRefIdeal : Cert.NaRefIdeal.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)
      ∧ m' ((c.tc : Thread Cert.NaRefIdeal.nD Cert.NaRefIdeal.τ).loc Cert.NaRefIdeal.main_arg4) = m ((c.tc : Thread Cert.NaIdeal.nD Cert.NaIdeal.τ).loc Cert.NaIdeal.main_arg4)
      ∧ m' ((c.tc : Thread Cert.NaRefIdeal.nD Cert.NaRefIdeal.τ).loc Cert.NaRefIdeal.main_arg5) = m ((c.tc : Thread Cert.NaIdeal.nD Cert.NaIdeal.τ).loc Cert.NaIdeal.main_arg5)) →
    ∃ (v0 : (c : Dev Cert.NaIdeal.nD) → Buf (Elt Ideal) ((c.tc : Thread Cert.NaIdeal.nD Cert.NaIdeal.τ).loc Cert.NaIdeal.main_v179)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v179) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
          ∧ r.2.mem ((c.tc : Thread Cert.NaIdeal.nD Cert.NaIdeal.τ).loc Cert.NaIdeal.main_arg4) = m ((c.tc : Thread Cert.NaIdeal.nD Cert.NaIdeal.τ).loc Cert.NaIdeal.main_arg4)
          ∧ r.2.mem ((c.tc : Thread Cert.NaIdeal.nD Cert.NaIdeal.τ).loc Cert.NaIdeal.main_arg5) = m ((c.tc : Thread Cert.NaIdeal.nD Cert.NaIdeal.τ).loc Cert.NaIdeal.main_arg5))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v117) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3)
          ∧ r.2.mem ((c.tc : Thread Cert.NaRefIdeal.nD Cert.NaRefIdeal.τ).loc Cert.NaRefIdeal.main_arg4) = m' ((c.tc : Thread Cert.NaRefIdeal.nD Cert.NaRefIdeal.τ).loc Cert.NaRefIdeal.main_arg4)
          ∧ r.2.mem ((c.tc : Thread Cert.NaRefIdeal.nD Cert.NaRefIdeal.τ).loc Cert.NaRefIdeal.main_arg5) = m' ((c.tc : Thread Cert.NaRefIdeal.nD Cert.NaRefIdeal.τ).loc Cert.NaRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)) (v4 : (c : Dev Cert.ProjIdeal.nD) → Buf (Elt Ideal) ((c.tc : Thread Cert.ProjIdeal.nD Cert.ProjIdeal.τ).loc Cert.ProjIdeal.main_v10_4)) (v5 : (c : Dev Cert.ProjIdeal.nD) → Buf (Elt Ideal) ((c.tc : Thread Cert.ProjIdeal.nD Cert.ProjIdeal.τ).loc Cert.ProjIdeal.main_v10_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_v10_4) = v4 c
          ∧ r.2.mem ((c.tc : Thread Cert.ProjIdeal.nD Cert.ProjIdeal.τ).loc Cert.ProjIdeal.main_v10_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_v14) = v1 c
          ∧ r.2.mem ((c.tc : Thread Cert.ProjRefIdeal.nD Cert.ProjRefIdeal.τ).loc Cert.ProjRefIdeal.main_v15) = v2 c
          ∧ r.2.mem ((c.tc : Thread Cert.ProjRefIdeal.nD Cert.ProjRefIdeal.τ).loc Cert.ProjRefIdeal.main_v18) = v3 c
          ∧ r.2.mem ((c.tc : Thread Cert.ProjRefIdeal.nD Cert.ProjRefIdeal.τ).loc Cert.ProjRefIdeal.main_v19) = v4 c
          ∧ r.2.mem ((c.tc : Thread Cert.ProjRefIdeal.nD Cert.ProjRefIdeal.τ).loc Cert.ProjRefIdeal.main_v20) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v32) = v0 c
          ∧ r.2.mem ((c.tc : Thread Cert.MixRefIdeal.nD Cert.MixRefIdeal.τ).loc Cert.MixRefIdeal.main_v41) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v22) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_Peer_PeerIdeal : Prop :=
  IdealRules.named_const.Statement Cert.PeerIdeal.κ "gelu_cubic" .bf16 0x3D37#16 ((12003091 / 268435456 : ℝ) : EReal)
  ∧ IdealRules.named_const.Statement Cert.PeerIdeal.κ "gelu_scale" .bf16 0x3F4C#16 ((6693141 / 8388608 : ℝ) : EReal)

def algebraic_PeerIdeal_PeerRefIdeal [hPeerIdeal : Cert.PeerIdeal.Facts] [hPeerRefIdeal : Cert.PeerRefIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)
      ∧ m' ((c.tc : Thread Cert.PeerRefIdeal.nD Cert.PeerRefIdeal.τ).loc Cert.PeerRefIdeal.main_arg3) = m ((c.tc : Thread Cert.PeerIdeal.nD Cert.PeerIdeal.τ).loc Cert.PeerIdeal.main_arg3)
      ∧ m' ((c.tc : Thread Cert.PeerRefIdeal.nD Cert.PeerRefIdeal.τ).loc Cert.PeerRefIdeal.main_arg4) = m ((c.tc : Thread Cert.PeerIdeal.nD Cert.PeerIdeal.τ).loc Cert.PeerIdeal.main_arg4)
      ∧ m' ((c.tc : Thread Cert.PeerRefIdeal.nD Cert.PeerRefIdeal.τ).loc Cert.PeerRefIdeal.main_arg5) = m ((c.tc : Thread Cert.PeerIdeal.nD Cert.PeerIdeal.τ).loc Cert.PeerIdeal.main_arg5)
      ∧ m' ((c.tc : Thread Cert.PeerRefIdeal.nD Cert.PeerRefIdeal.τ).loc Cert.PeerRefIdeal.main_arg6) = m ((c.tc : Thread Cert.PeerIdeal.nD Cert.PeerIdeal.τ).loc Cert.PeerIdeal.main_arg6)
      ∧ m' ((c.tc : Thread Cert.PeerRefIdeal.nD Cert.PeerRefIdeal.τ).loc Cert.PeerRefIdeal.main_arg7) = m ((c.tc : Thread Cert.PeerIdeal.nD Cert.PeerIdeal.τ).loc Cert.PeerIdeal.main_arg7)
      ∧ m' ((c.tc : Thread Cert.PeerRefIdeal.nD Cert.PeerRefIdeal.τ).loc Cert.PeerRefIdeal.main_arg8) = m ((c.tc : Thread Cert.PeerIdeal.nD Cert.PeerIdeal.τ).loc Cert.PeerIdeal.main_arg8)
      ∧ m' ((c.tc : Thread Cert.PeerRefIdeal.nD Cert.PeerRefIdeal.τ).loc Cert.PeerRefIdeal.main_arg9) = m ((c.tc : Thread Cert.PeerIdeal.nD Cert.PeerIdeal.τ).loc Cert.PeerIdeal.main_arg9)
      ∧ m' ((c.tc : Thread Cert.PeerRefIdeal.nD Cert.PeerRefIdeal.τ).loc Cert.PeerRefIdeal.main_arg10) = m ((c.tc : Thread Cert.PeerIdeal.nD Cert.PeerIdeal.τ).loc Cert.PeerIdeal.main_arg10)) →
    ∃ (v0 : (c : Dev Cert.PeerIdeal.nD) → Buf (Elt Ideal) ((c.tc : Thread Cert.PeerIdeal.nD Cert.PeerIdeal.τ).loc Cert.PeerIdeal.main_v5)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v5) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
          ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
          ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8)
          ∧ r.2.mem ((c.tc : Thread Cert.PeerIdeal.nD Cert.PeerIdeal.τ).loc Cert.PeerIdeal.main_arg9) = m ((c.tc : Thread Cert.PeerIdeal.nD Cert.PeerIdeal.τ).loc Cert.PeerIdeal.main_arg9)
          ∧ r.2.mem ((c.tc : Thread Cert.PeerIdeal.nD Cert.PeerIdeal.τ).loc Cert.PeerIdeal.main_arg10) = m ((c.tc : Thread Cert.PeerIdeal.nD Cert.PeerIdeal.τ).loc Cert.PeerIdeal.main_arg10))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v64) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2)
          ∧ r.2.mem ((c.tc : Thread Cert.PeerRefIdeal.nD Cert.PeerRefIdeal.τ).loc Cert.PeerRefIdeal.main_arg3) = m' ((c.tc : Thread Cert.PeerRefIdeal.nD Cert.PeerRefIdeal.τ).loc Cert.PeerRefIdeal.main_arg3)
          ∧ r.2.mem ((c.tc : Thread Cert.PeerRefIdeal.nD Cert.PeerRefIdeal.τ).loc Cert.PeerRefIdeal.main_arg4) = m' ((c.tc : Thread Cert.PeerRefIdeal.nD Cert.PeerRefIdeal.τ).loc Cert.PeerRefIdeal.main_arg4)
          ∧ r.2.mem ((c.tc : Thread Cert.PeerRefIdeal.nD Cert.PeerRefIdeal.τ).loc Cert.PeerRefIdeal.main_arg5) = m' ((c.tc : Thread Cert.PeerRefIdeal.nD Cert.PeerRefIdeal.τ).loc Cert.PeerRefIdeal.main_arg5)
          ∧ r.2.mem ((c.tc : Thread Cert.PeerRefIdeal.nD Cert.PeerRefIdeal.τ).loc Cert.PeerRefIdeal.main_arg6) = m' ((c.tc : Thread Cert.PeerRefIdeal.nD Cert.PeerRefIdeal.τ).loc Cert.PeerRefIdeal.main_arg6)
          ∧ r.2.mem ((c.tc : Thread Cert.PeerRefIdeal.nD Cert.PeerRefIdeal.τ).loc Cert.PeerRefIdeal.main_arg7) = m' ((c.tc : Thread Cert.PeerRefIdeal.nD Cert.PeerRefIdeal.τ).loc Cert.PeerRefIdeal.main_arg7)
          ∧ r.2.mem ((c.tc : Thread Cert.PeerRefIdeal.nD Cert.PeerRefIdeal.τ).loc Cert.PeerRefIdeal.main_arg8) = m' ((c.tc : Thread Cert.PeerRefIdeal.nD Cert.PeerRefIdeal.τ).loc Cert.PeerRefIdeal.main_arg8)
          ∧ r.2.mem ((c.tc : Thread Cert.PeerRefIdeal.nD Cert.PeerRefIdeal.τ).loc Cert.PeerRefIdeal.main_arg9) = m' ((c.tc : Thread Cert.PeerRefIdeal.nD Cert.PeerRefIdeal.τ).loc Cert.PeerRefIdeal.main_arg9)
          ∧ r.2.mem ((c.tc : Thread Cert.PeerRefIdeal.nD Cert.PeerRefIdeal.τ).loc Cert.PeerRefIdeal.main_arg10) = m' ((c.tc : Thread Cert.PeerRefIdeal.nD Cert.PeerRefIdeal.τ).loc Cert.PeerRefIdeal.main_arg10))

def Claim : Prop :=
  ∃ (hNa : Cert.Na.Facts) (hNaIdeal : Cert.NaIdeal.Facts) (hNaRefIdeal : Cert.NaRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hCtx : Cert.Ctx.Facts) (hCtxIdeal : Cert.CtxIdeal.Facts) (hCtxRefIdeal : Cert.CtxRefIdeal.Facts) (hPeer : Cert.Peer.Facts) (hPeerIdeal : Cert.PeerIdeal.Facts) (hPeerRefIdeal : Cert.PeerRefIdeal.Facts),
    quiescent_Na (hNa := hNa)
    ∧ quiescent_NaIdeal (hNaIdeal := hNaIdeal)
    ∧ quiescent_NaRefIdeal (hNaRefIdeal := hNaRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Peer (hPeer := hPeer)
    ∧ quiescent_PeerIdeal (hPeerIdeal := hPeerIdeal)
    ∧ quiescent_PeerRefIdeal (hPeerRefIdeal := hPeerRefIdeal)
    ∧ preserves_Na_NaIdeal
    ∧ algebraic_NaIdeal_NaRefIdeal (hNaIdeal := hNaIdeal) (hNaRefIdeal := hNaRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Ctx_CtxIdeal
    ∧ algebraic_CtxIdeal_CtxRefIdeal (hCtxIdeal := hCtxIdeal) (hCtxRefIdeal := hCtxRefIdeal)
    ∧ preserves_Peer_PeerIdeal
    ∧ algebraic_PeerIdeal_PeerRefIdeal (hPeerIdeal := hPeerIdeal) (hPeerRefIdeal := hPeerRefIdeal)
-- ==== Na.lean ====
abbrev S16x2048x512 : Shape := ⟨3, ![16, 2048, 512]⟩
abbrev S16x256x512 : Shape := ⟨3, ![16, 256, 512]⟩
abbrev S8x15x31 : Shape := ⟨3, ![8, 15, 31]⟩
abbrev S127 : Shape := ⟨1, ![127]⟩
abbrev S64x64 : Shape := ⟨2, ![64, 64]⟩
abbrev S1x1x64x64 : Shape := ⟨4, ![1, 1, 64, 64]⟩
abbrev S_ : Shape := ⟨0, ![]⟩
abbrev S127x1 : Shape := ⟨2, ![127, 1]⟩
abbrev S8x15x127 : Shape := ⟨3, ![8, 15, 127]⟩
abbrev S8x15x64 : Shape := ⟨3, ![8, 15, 64]⟩
abbrev S8x15x1x64 : Shape := ⟨4, ![8, 15, 1, 64]⟩
abbrev S8x15x16x64 : Shape := ⟨4, ![8, 15, 16, 64]⟩
abbrev S8x15x64x64 : Shape := ⟨4, ![8, 15, 64, 64]⟩
abbrev S8x64x15x64 : Shape := ⟨4, ![8, 64, 15, 64]⟩
abbrev S8x64x8x64 : Shape := ⟨4, ![8, 64, 8, 64]⟩
abbrev S8x64x11x64 : Shape := ⟨4, ![8, 64, 11, 64]⟩
abbrev S8x1x64x11x64 : Shape := ⟨5, ![8, 1, 64, 11, 64]⟩
abbrev S8x12x64x11x64 : Shape := ⟨5, ![8, 12, 64, 11, 64]⟩
abbrev S8x3x256x704 : Shape := ⟨4, ![8, 3, 256, 704]⟩
abbrev S1x2048x128 : Shape := ⟨3, ![1, 2048, 128]⟩
abbrev S1x256x128 : Shape := ⟨3, ![1, 256, 128]⟩
abbrev S2x3x256x704 : Shape := ⟨4, ![2, 3, 256, 704]⟩
abbrev S2x2048x256 : Shape := ⟨3, ![2, 2048, 256]⟩
abbrev S2x2048x128 : Shape := ⟨3, ![2, 2048, 128]⟩
abbrev S1x128 : Shape := ⟨2, ![1, 128]⟩
abbrev S256x128 : Shape := ⟨2, ![256, 128]⟩
abbrev S2048x128 : Shape := ⟨2, ![2048, 128]⟩
abbrev S2048x256 : Shape := ⟨2, ![2048, 256]⟩
abbrev S1x2048x256 : Shape := ⟨3, ![1, 2048, 256]⟩
abbrev S1x704x128 : Shape := ⟨3, ![1, 704, 128]⟩
abbrev S704x128 : Shape := ⟨2, ![704, 128]⟩
abbrev S256x704 : Shape := ⟨2, ![256, 704]⟩
abbrev S1x1x256x704 : Shape := ⟨4, ![1, 1, 256, 704]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S1x512x256 : Shape := ⟨3, ![1, 512, 256]⟩
abbrev S512x256 : Shape := ⟨2, ![512, 256]⟩

abbrev nBuf : Space → Nat
  | .hbm => 218
  | .vmem => 18
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S16x256x512, .bf16⟩
  | 4 => ⟨S16x256x512, .bf16⟩
  | 5 => ⟨S8x15x31, .f32⟩
  | 6 => ⟨S127, .i32⟩
  | 7 => ⟨S127, .i1⟩
  | 8 => ⟨S64x64, .i1⟩
  | 9 => ⟨S1x1x64x64, .i1⟩
  | 10 => ⟨S_, .i32⟩
  | 11 => ⟨S127, .i32⟩
  | 12 => ⟨S127, .i32⟩
  | 13 => ⟨S127, .i32⟩
  | 14 => ⟨S127x1, .i32⟩
  | 15 => ⟨S8x15x127, .f32⟩
  | 16 => ⟨S8x15x64, .f32⟩
  | 17 => ⟨S8x15x64, .f32⟩
  | 18 => ⟨S8x15x64, .f32⟩
  | 19 => ⟨S8x15x64, .f32⟩
  | 20 => ⟨S8x15x64, .f32⟩
  | 21 => ⟨S8x15x64, .f32⟩
  | 22 => ⟨S8x15x64, .f32⟩
  | 23 => ⟨S8x15x64, .f32⟩
  | 24 => ⟨S8x15x64, .f32⟩
  | 25 => ⟨S8x15x64, .f32⟩
  | 26 => ⟨S8x15x64, .f32⟩
  | 27 => ⟨S8x15x64, .f32⟩
  | 28 => ⟨S8x15x64, .f32⟩
  | 29 => ⟨S8x15x64, .f32⟩
  | 30 => ⟨S8x15x64, .f32⟩
  | 31 => ⟨S8x15x64, .f32⟩
  | 32 => ⟨S8x15x64, .f32⟩
  | 33 => ⟨S8x15x64, .f32⟩
  | 34 => ⟨S8x15x64, .f32⟩
  | 35 => ⟨S8x15x64, .f32⟩
  | 36 => ⟨S8x15x64, .f32⟩
  | 37 => ⟨S8x15x64, .f32⟩
  | 38 => ⟨S8x15x64, .f32⟩
  | 39 => ⟨S8x15x64, .f32⟩
  | 40 => ⟨S8x15x64, .f32⟩
  | 41 => ⟨S8x15x64, .f32⟩
  | 42 => ⟨S8x15x64, .f32⟩
  | 43 => ⟨S8x15x64, .f32⟩
  | 44 => ⟨S8x15x64, .f32⟩
  | 45 => ⟨S8x15x64, .f32⟩
  | 46 => ⟨S8x15x64, .f32⟩
  | 47 => ⟨S8x15x64, .f32⟩
  | 48 => ⟨S8x15x64, .f32⟩
  | 49 => ⟨S8x15x64, .f32⟩
  | 50 => ⟨S8x15x64, .f32⟩
  | 51 => ⟨S8x15x64, .f32⟩
  | 52 => ⟨S8x15x64, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x64, .f32⟩
  | 73 => ⟨S8x15x64, .f32⟩
  | 74 => ⟨S8x15x64, .f32⟩
  | 75 => ⟨S8x15x64, .f32⟩
  | 76 => ⟨S8x15x64, .f32⟩
  | 77 => ⟨S8x15x64, .f32⟩
  | 78 => ⟨S8x15x64, .f32⟩
  | 79 => ⟨S8x15x64, .f32⟩
  | 80 => ⟨S8x15x1x64, .f32⟩
  | 81 => ⟨S8x15x1x64, .f32⟩
  | 82 => ⟨S8x15x1x64, .f32⟩
  | 83 => ⟨S8x15x1x64, .f32⟩
  | 84 => ⟨S8x15x1x64, .f32⟩
  | 85 => ⟨S8x15x1x64, .f32⟩
  | 86 => ⟨S8x15x1x64, .f32⟩
  | 87 => ⟨S8x15x1x64, .f32⟩
  | 88 => ⟨S8x15x1x64, .f32⟩
  | 89 => ⟨S8x15x1x64, .f32⟩
  | 90 => ⟨S8x15x1x64, .f32⟩
  | 91 => ⟨S8x15x1x64, .f32⟩
  | 92 => ⟨S8x15x1x64, .f32⟩
  | 93 => ⟨S8x15x1x64, .f32⟩
  | 94 => ⟨S8x15x1x64, .f32⟩
  | 95 => ⟨S8x15x1x64, .f32⟩
  | 96 => ⟨S8x15x1x64, .f32⟩
  | 97 => ⟨S8x15x1x64, .f32⟩
  | 98 => ⟨S8x15x1x64, .f32⟩
  | 99 => ⟨S8x15x1x64, .f32⟩
  | 100 => ⟨S8x15x1x64, .f32⟩
  | 101 => ⟨S8x15x1x64, .f32⟩
  | 102 => ⟨S8x15x1x64, .f32⟩
  | 103 => ⟨S8x15x1x64, .f32⟩
  | 104 => ⟨S8x15x1x64, .f32⟩
  | 105 => ⟨S8x15x1x64, .f32⟩
  | 106 => ⟨S8x15x1x64, .f32⟩
  | 107 => ⟨S8x15x1x64, .f32⟩
  | 108 => ⟨S8x15x1x64, .f32⟩
  | 109 => ⟨S8x15x1x64, .f32⟩
  | 110 => ⟨S8x15x1x64, .f32⟩
  | 111 => ⟨S8x15x1x64, .f32⟩
  | 112 => ⟨S8x15x1x64, .f32⟩
  | 113 => ⟨S8x15x1x64, .f32⟩
  | 114 => ⟨S8x15x1x64, .f32⟩
  | 115 => ⟨S8x15x1x64, .f32⟩
  | 116 => ⟨S8x15x1x64, .f32⟩
  | 117 => ⟨S8x15x1x64, .f32⟩
  | 118 => ⟨S8x15x1x64, .f32⟩
  | 119 => ⟨S8x15x1x64, .f32⟩
  | 120 => ⟨S8x15x1x64, .f32⟩
  | 121 => ⟨S8x15x1x64, .f32⟩
  | 122 => ⟨S8x15x1x64, .f32⟩
  | 123 => ⟨S8x15x1x64, .f32⟩
  | 124 => ⟨S8x15x1x64, .f32⟩
  | 125 => ⟨S8x15x1x64, .f32⟩
  | 126 => ⟨S8x15x1x64, .f32⟩
  | 127 => ⟨S8x15x1x64, .f32⟩
  | _ => ⟨S16x2048x512, .bf16⟩

abbrev hbmTy0_1 (i : Nat) : BufTy := match i % 128 with
  | 0 => ⟨S8x15x1x64, .f32⟩
  | 1 => ⟨S8x15x1x64, .f32⟩
  | 2 => ⟨S8x15x1x64, .f32⟩
  | 3 => ⟨S8x15x1x64, .f32⟩
  | 4 => ⟨S8x15x1x64, .f32⟩
  | 5 => ⟨S8x15x1x64, .f32⟩
  | 6 => ⟨S8x15x1x64, .f32⟩
  | 7 => ⟨S8x15x1x64, .f32⟩
  | 8 => ⟨S8x15x1x64, .f32⟩
  | 9 => ⟨S8x15x1x64, .f32⟩
  | 10 => ⟨S8x15x1x64, .f32⟩
  | 11 => ⟨S8x15x1x64, .f32⟩
  | 12 => ⟨S8x15x1x64, .f32⟩
  | 13 => ⟨S8x15x1x64, .f32⟩
  | 14 => ⟨S8x15x1x64, .f32⟩
  | 15 => ⟨S8x15x1x64, .f32⟩
  | 16 => ⟨S8x15x16x64, .f32⟩
  | 17 => ⟨S8x15x16x64, .f32⟩
  | 18 => ⟨S8x15x16x64, .f32⟩
  | 19 => ⟨S8x15x16x64, .f32⟩
  | 20 => ⟨S8x15x64x64, .f32⟩
  | 21 => ⟨S_, .f32⟩
  | 22 => ⟨S_, .f32⟩
  | 23 => ⟨S8x15x64x64, .i1⟩
  | 24 => ⟨S8x15x64x64, .f32⟩
  | 25 => ⟨S8x15x64x64, .f32⟩
  | 26 => ⟨S8x64x15x64, .f32⟩
  | 27 => ⟨S8x64x8x64, .f32⟩
  | 28 => ⟨S_, .f32⟩
  | 29 => ⟨S_, .f32⟩
  | 30 => ⟨S8x64x11x64, .f32⟩
  | 31 => ⟨S8x64x8x64, .f32⟩
  | 32 => ⟨S_, .f32⟩
  | 33 => ⟨S_, .f32⟩
  | 34 => ⟨S8x64x11x64, .f32⟩
  | 35 => ⟨S8x64x8x64, .f32⟩
  | 36 => ⟨S_, .f32⟩
  | 37 => ⟨S_, .f32⟩
  | 38 => ⟨S8x64x11x64, .f32⟩
  | 39 => ⟨S8x64x8x64, .f32⟩
  | 40 => ⟨S_, .f32⟩
  | 41 => ⟨S_, .f32⟩
  | 42 => ⟨S8x64x11x64, .f32⟩
  | 43 => ⟨S8x64x8x64, .f32⟩
  | 44 => ⟨S_, .f32⟩
  | 45 => ⟨S_, .f32⟩
  | 46 => ⟨S8x64x11x64, .f32⟩
  | 47 => ⟨S8x64x8x64, .f32⟩
  | 48 => ⟨S_, .f32⟩
  | 49 => ⟨S_, .f32⟩
  | 50 => ⟨S8x64x11x64, .f32⟩
  | 51 => ⟨S8x64x8x64, .f32⟩
  | 52 => ⟨S_, .f32⟩
  | 53 => ⟨S_, .f32⟩
  | 54 => ⟨S8x64x11x64, .f32⟩
  | 55 => ⟨S8x64x8x64, .f32⟩
  | 56 => ⟨S_, .f32⟩
  | 57 => ⟨S_, .f32⟩
  | 58 => ⟨S8x64x11x64, .f32⟩
  | 59 => ⟨S8x64x8x64, .f32⟩
  | 60 => ⟨S_, .f32⟩
  | 61 => ⟨S_, .f32⟩
  | 62 => ⟨S8x64x11x64, .f32⟩
  | 63 => ⟨S8x64x8x64, .f32⟩
  | 64 => ⟨S_, .f32⟩
  | 65 => ⟨S_, .f32⟩
  | 66 => ⟨S8x64x11x64, .f32⟩
  | 67 => ⟨S8x64x8x64, .f32⟩
  | 68 => ⟨S_, .f32⟩
  | 69 => ⟨S_, .f32⟩
  | 70 => ⟨S8x64x11x64, .f32⟩
  | 71 => ⟨S8x64x8x64, .f32⟩
  | 72 => ⟨S_, .f32⟩
  | 73 => ⟨S_, .f32⟩
  | 74 => ⟨S8x64x11x64, .f32⟩
  | 75 => ⟨S8x1x64x11x64, .f32⟩
  | 76 => ⟨S8x1x64x11x64, .f32⟩
  | 77 => ⟨S8x1x64x11x64, .f32⟩
  | 78 => ⟨S8x1x64x11x64, .f32⟩
  | 79 => ⟨S8x1x64x11x64, .f32⟩
  | 80 => ⟨S8x1x64x11x64, .f32⟩
  | 81 => ⟨S8x1x64x11x64, .f32⟩
  | 82 => ⟨S8x1x64x11x64, .f32⟩
  | 83 => ⟨S8x1x64x11x64, .f32⟩
  | 84 => ⟨S8x1x64x11x64, .f32⟩
  | 85 => ⟨S8x1x64x11x64, .f32⟩
  | 86 => ⟨S8x1x64x11x64, .f32⟩
  | 87 => ⟨S8x12x64x11x64, .f32⟩
  | 88 => ⟨S8x3x256x704, .f32⟩
  | 89 => ⟨S16x2048x512, .bf16⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S2x3x256x704, .f32⟩
  | .local _ .vmem, ⟨11, _⟩ => ⟨S2x3x256x704, .f32⟩
  | .local _ .vmem, ⟨12, _⟩ => ⟨S1x2048x128, .bf16⟩
  | .local _ .vmem, ⟨13, _⟩ => ⟨S1x2048x128, .bf16⟩
  | .local _ .vmem, ⟨14, _⟩ => ⟨S2x2048x256, .f32⟩
  | .local _ .vmem, ⟨15, _⟩ => ⟨S2x2048x256, .bf16⟩
  | .local _ .vmem, ⟨16, _⟩ => ⟨S2x2048x128, .f32⟩
  | .local _ .vmem, ⟨17, _⟩ => ⟨S2x2048x128, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_c_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_cst : Ref sig .tc := ⟨.hbm, 149, rfl⟩
abbrev main_call0_v0 : Ref sig .tc := ⟨.hbm, 150, rfl⟩
abbrev main_call0_v1 : Ref sig .tc := ⟨.hbm, 151, rfl⟩
abbrev main_call0_v2 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_cst_3 : Ref sig .tc := ⟨.hbm, 156, rfl⟩
abbrev main_call1_v0 : Ref sig .tc := ⟨.hbm, 157, rfl⟩
abbrev main_v142 : Ref sig .tc := ⟨.hbm, 158, rfl⟩
abbrev main_v143 : Ref sig .tc := ⟨.hbm, 159, rfl⟩
abbrev main_cst_4 : Ref sig .tc := ⟨.hbm, 160, rfl⟩
abbrev main_call2_v0 : Ref sig .tc := ⟨.hbm, 161, rfl⟩
abbrev main_v144 : Ref sig .tc := ⟨.hbm, 162, rfl⟩
abbrev main_v145 : Ref sig .tc := ⟨.hbm, 163, rfl⟩
abbrev main_cst_5 : Ref sig .tc := ⟨.hbm, 164, rfl⟩
abbrev main_call3_v0 : Ref sig .tc := ⟨.hbm, 165, rfl⟩
abbrev main_v146 : Ref sig .tc := ⟨.hbm, 166, rfl⟩
abbrev main_v147 : Ref sig .tc := ⟨.hbm, 167, rfl⟩
abbrev main_cst_6 : Ref sig .tc := ⟨.hbm, 168, rfl⟩
abbrev main_call4_v0 : Ref sig .tc := ⟨.hbm, 169, rfl⟩
abbrev main_v148 : Ref sig .tc := ⟨.hbm, 170, rfl⟩
abbrev main_v149 : Ref sig .tc := ⟨.hbm, 171, rfl⟩
abbrev main_cst_7 : Ref sig .tc := ⟨.hbm, 172, rfl⟩
abbrev main_call5_v0 : Ref sig .tc := ⟨.hbm, 173, rfl⟩
abbrev main_v150 : Ref sig .tc := ⟨.hbm, 174, rfl⟩
abbrev main_v151 : Ref sig .tc := ⟨.hbm, 175, rfl⟩
abbrev main_cst_8 : Ref sig .tc := ⟨.hbm, 176, rfl⟩
abbrev main_call6_v0 : Ref sig .tc := ⟨.hbm, 177, rfl⟩
abbrev main_v152 : Ref sig .tc := ⟨.hbm, 178, rfl⟩
abbrev main_v153 : Ref sig .tc := ⟨.hbm, 179, rfl⟩
abbrev main_cst_9 : Ref sig .tc := ⟨.hbm, 180, rfl⟩
abbrev main_call7_v0 : Ref sig .tc := ⟨.hbm, 181, rfl⟩
abbrev main_v154 : Ref sig .tc := ⟨.hbm, 182, rfl⟩
abbrev main_v155 : Ref sig .tc := ⟨.hbm, 183, rfl⟩
abbrev main_cst_10 : Ref sig .tc := ⟨.hbm, 184, rfl⟩
abbrev main_call8_v0 : Ref sig .tc := ⟨.hbm, 185, rfl⟩
abbrev main_v156 : Ref sig .tc := ⟨.hbm, 186, rfl⟩
abbrev main_v157 : Ref sig .tc := ⟨.hbm, 187, rfl⟩
abbrev main_cst_11 : Ref sig .tc := ⟨.hbm, 188, rfl⟩
abbrev main_call9_v0 : Ref sig .tc := ⟨.hbm, 189, rfl⟩
abbrev main_v158 : Ref sig .tc := ⟨.hbm, 190, rfl⟩
abbrev main_v159 : Ref sig .tc := ⟨.hbm, 191, rfl⟩
abbrev main_cst_12 : Ref sig .tc := ⟨.hbm, 192, rfl⟩
abbrev main_call10_v0 : Ref sig .tc := ⟨.hbm, 193, rfl⟩
abbrev main_v160 : Ref sig .tc := ⟨.hbm, 194, rfl⟩
abbrev main_v161 : Ref sig .tc := ⟨.hbm, 195, rfl⟩
abbrev main_cst_13 : Ref sig .tc := ⟨.hbm, 196, rfl⟩
abbrev main_call11_v0 : Ref sig .tc := ⟨.hbm, 197, rfl⟩
abbrev main_v162 : Ref sig .tc := ⟨.hbm, 198, rfl⟩
abbrev main_v163 : Ref sig .tc := ⟨.hbm, 199, rfl⟩
abbrev main_cst_14 : Ref sig .tc := ⟨.hbm, 200, rfl⟩
abbrev main_call12_v0 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v29 : BitVec 32 := Scalar.addi c0_i32 c8_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v39 : BitVec 32 := Scalar.muli arg13 c256_i32
  v39
def k0_mult2 (k0_t1 : Fin k0_t1_loop.trips) : BitVec 32 :=
  let c21_i32 : BitVec 32 := 21#32
  let c0_i32_26 : BitVec 32 := 0#32
  let c4_i32_24 : BitVec 32 := 4#32
  let c0_i32 : BitVec 32 := 0#32
  let c1_i32 : BitVec 32 := 1#32
  let arg13 : BitVec 32 := Scf.iv c0_i32 c1_i32 k0_t1
  let v31 : BitVec 32 := Scalar.muli c4_i32_24 arg13
  let c4_i32_25 : BitVec 32 := 4#32
  let v32 : BitVec 32 := Scalar.subi v31 c4_i32_25
  let v33 : BitVec 32 := Scalar.maxsi c0_i32_26 v32
  let v34 : BitVec 32 := Scalar.minsi c21_i32 v33
  let c64_i32_30 : BitVec 32 := 64#32
  let v41 : BitVec 32 := Scalar.muli v34 c64_i32_30
  v41
def k0_off1 (k0_t1 : Fin k0_t1_loop.trips) : Fin 3 → Nat :=
  let c0_31 : Index := 0#32
  let c0_i32 : BitVec 32 := 0#32
  let c1_i32 : BitVec 32 := 1#32
  let arg13 : BitVec 32 := Scf.iv c0_i32 c1_i32 k0_t1
  let c256_i32 : BitVec 32 := 256#32
  let v39 : BitVec 32 := Scalar.muli arg13 c256_i32
  let v40 : BitVec 32 := v39
  let v43 : Index := Scalar.indexCast v40
  let c0_32 : Index := 0#32
  ![0, v43.toNat, 0]
def k0_off2 (k0_t1 : Fin k0_t1_loop.trips) : Fin 3 → Nat :=
  let c0_33 : Index := 0#32
  let c21_i32 : BitVec 32 := 21#32
  let c0_i32_26 : BitVec 32 := 0#32
  let c4_i32_24 : BitVec 32 := 4#32
  let c0_i32 : BitVec 32 := 0#32
  let c1_i32 : BitVec 32 := 1#32
  let arg13 : BitVec 32 := Scf.iv c0_i32 c1_i32 k0_t1
  let v31 : BitVec 32 := Scalar.muli c4_i32_24 arg13
  let c4_i32_25 : BitVec 32 := 4#32
  let v32 : BitVec 32 := Scalar.subi v31 c4_i32_25
  let v33 : BitVec 32 := Scalar.maxsi c0_i32_26 v32
  let v34 : BitVec 32 := Scalar.minsi c21_i32 v33
  let c64_i32_30 : BitVec 32 := 64#32
  let v41 : BitVec 32 := Scalar.muli v34 c64_i32_30
  let v42 : BitVec 32 := v41
  let v46 : Index := Scalar.indexCast v42
  let c0_34 : Index := 0#32
  ![0, v46.toNat, 0]
def k0_off3 (k0_t1 : Fin k0_t1_loop.trips) : Fin 4 → Nat :=
  let c0_39 : Index := 0#32
  let c0_i32 : BitVec 32 := 0#32
  let c1_i32 : BitVec 32 := 1#32
  let arg13 : BitVec 32 := Scf.iv c0_i32 c1_i32 k0_t1
  let c0_i32_27 : BitVec 32 := 0#32
  let v35 : BitVec 1 := Scalar.cmpi .eq arg13 c0_i32_27
  let c0_i32_29 : BitVec 32 := 0#32
  let c7_i32 : BitVec 32 := 7#32
  let v36 : BitVec 1 := Scalar.cmpi .eq arg13 c7_i32
  let c2_i32 : BitVec 32 := 2#32
  let c1_i32_28 : BitVec 32 := 1#32
  let v37 : BitVec 32 := Scalar.select v36 c2_i32 c1_i32_28
  let v38 : BitVec 32 := Scalar.select v35 c0_i32_29 v37
  let v57 : Index := Scalar.indexCast v38
  let c0_40 : Index := 0#32
  let c0_41 : Index := 0#32
  ![0, v57.toNat, 0, 0]
def k0_off4 (k0_t1 : Fin k0_t1_loop.trips) : Fin 3 → Nat :=
  let c0_42 : Index := 0#32
  let c0_i32 : BitVec 32 := 0#32
  let c1_i32 : BitVec 32 := 1#32
  let arg13 : BitVec 32 := Scf.iv c0_i32 c1_i32 k0_t1
  let c256_i32 : BitVec 32 := 256#32
  let v39 : BitVec 32 := Scalar.muli arg13 c256_i32
  let v40 : BitVec 32 := v39
  let v61 : Index := Scalar.indexCast v40
  let c0_43 : Index := 0#32
  ![0, v61.toNat, 0]
def k0_off5 (k0_t1 : Fin k0_t1_loop.trips) : Fin 3 → Nat :=
  let c0_50 : Index := 0#32
  let c0_i32 : BitVec 32 := 0#32
  let c1_i32 : BitVec 32 := 1#32
  let arg13 : BitVec 32 := Scf.iv c0_i32 c1_i32 k0_t1
  let c256_i32 : BitVec 32 := 256#32
  let v39 : BitVec 32 := Scalar.muli arg13 c256_i32
  let v40 : BitVec 32 := v39
  let v87 : Index := Scalar.indexCast v40
  let c0_51 : Index := 0#32
  ![0, v87.toNat, 0]
def k0_off6 (k0_t1 : Fin k0_t1_loop.trips) : Fin 4 → Nat :=
  let c1_57 : Index := 1#32
  let c0_i32 : BitVec 32 := 0#32
  let c1_i32 : BitVec 32 := 1#32
  let arg13 : BitVec 32 := Scf.iv c0_i32 c1_i32 k0_t1
  let c0_i32_27 : BitVec 32 := 0#32
  let v35 : BitVec 1 := Scalar.cmpi .eq arg13 c0_i32_27
  let c0_i32_29 : BitVec 32 := 0#32
  let c7_i32 : BitVec 32 := 7#32
  let v36 : BitVec 1 := Scalar.cmpi .eq arg13 c7_i32
  let c2_i32 : BitVec 32 := 2#32
  let c1_i32_28 : BitVec 32 := 1#32
  let v37 : BitVec 32 := Scalar.select v36 c2_i32 c1_i32_28
  let v38 : BitVec 32 := Scalar.select v35 c0_i32_29 v37
  let v102 : Index := Scalar.indexCast v38
  let c0_58 : Index := 0#32
  let c0_59 : Index := 0#32
  ![1, v102.toNat, 0, 0]
def k0_off7 (k0_t1 : Fin k0_t1_loop.trips) : Fin 3 → Nat :=
  let c1_60 : Index := 1#32
  let c0_i32 : BitVec 32 := 0#32
  let c1_i32 : BitVec 32 := 1#32
  let arg13 : BitVec 32 := Scf.iv c0_i32 c1_i32 k0_t1
  let c256_i32 : BitVec 32 := 256#32
  let v39 : BitVec 32 := Scalar.muli arg13 c256_i32
  let v40 : BitVec 32 := v39
  let v106 : Index := Scalar.indexCast v40
  let c0_61 : Index := 0#32
  ![1, v106.toNat, 0]
def k0_off8 (k0_t1 : Fin k0_t1_loop.trips) : Fin 3 → Nat :=
  let c1_68 : Index := 1#32
  let c0_i32 : BitVec 32 := 0#32
  let c1_i32 : BitVec 32 := 1#32
  let arg13 : BitVec 32 := Scf.iv c0_i32 c1_i32 k0_t1
  let c256_i32 : BitVec 32 := 256#32
  let v39 : BitVec 32 := Scalar.muli arg13 c256_i32
  let v40 : BitVec 32 := v39
  let v132 : Index := Scalar.indexCast v40
  let c0_69 : Index := 0#32
  ![1, v132.toNat, 0]
@[reducible] def k0_t2_loop : Scf.Loop 32 :=
  let c0_i32_21 : BitVec 32 := 0#32
  let c4_i32 : BitVec 32 := 4#32
  let v30 : BitVec 32 := Scalar.addi c0_i32_21 c4_i32
  let c1_i32_22 : BitVec 32 := 1#32
  ⟨c0_i32_21, v30, c1_i32_22⟩
def k0_mult3 (k0_t2 : Fin k0_t2_loop.trips) : BitVec 32 :=
  let c0_i32_21 : BitVec 32 := 0#32
  let c1_i32_22 : BitVec 32 := 1#32
  let arg13 : BitVec 32 := Scf.iv c0_i32_21 c1_i32_22 k0_t2
  let c512_i32 : BitVec 32 := 512#32
  let v31 : BitVec 32 := Scalar.muli arg13 c512_i32
  v31
def k0_off9 (k0_t2 : Fin k0_t2_loop.trips) : Fin 3 → Nat :=
  let c0_24 : Index := 0#32
  let c0_i32_21 : BitVec 32 := 0#32
  let c1_i32_22 : BitVec 32 := 1#32
  let arg13 : BitVec 32 := Scf.iv c0_i32_21 c1_i32_22 k0_t2
  let c512_i32 : BitVec 32 := 512#32
  let v31 : BitVec 32 := Scalar.muli arg13 c512_i32
  let v32 : BitVec 32 := v31
  let v33 : Index := Scalar.indexCast v32
  let c0_25 : Index := 0#32
  ![0, v33.toNat, 0]
def k0_off10 (k0_t2 : Fin k0_t2_loop.trips) : Fin 3 → Nat :=
  let c0_26 : Index := 0#32
  let c0_i32_21 : BitVec 32 := 0#32
  let c1_i32_22 : BitVec 32 := 1#32
  let arg13 : BitVec 32 := Scf.iv c0_i32_21 c1_i32_22 k0_t2
  let c512_i32 : BitVec 32 := 512#32
  let v31 : BitVec 32 := Scalar.muli arg13 c512_i32
  let v32 : BitVec 32 := v31
  let v36 : Index := Scalar.indexCast v32
  let c0_27 : Index := 0#32
  ![0, v36.toNat, 0]
def k0_off11 (k0_t2 : Fin k0_t2_loop.trips) : Fin 3 → Nat :=
  let c1_31 : Index := 1#32
  let c0_i32_21 : BitVec 32 := 0#32
  let c1_i32_22 : BitVec 32 := 1#32
  let arg13 : BitVec 32 := Scf.iv c0_i32_21 c1_i32_22 k0_t2
  let c512_i32 : BitVec 32 := 512#32
  let v31 : BitVec 32 := Scalar.muli arg13 c512_i32
  let v32 : BitVec 32 := v31
  let v45 : Index := Scalar.indexCast v32
  let c0_32 : Index := 0#32
  ![1, v45.toNat, 0]
def k0_off12 (k0_t2 : Fin k0_t2_loop.trips) : Fin 3 → Nat :=
  let c1_33 : Index := 1#32
  let c0_i32_21 : BitVec 32 := 0#32
  let c1_i32_22 : BitVec 32 := 1#32
  let arg13 : BitVec 32 := Scf.iv c0_i32_21 c1_i32_22 k0_t2
  let c512_i32 : BitVec 32 := 512#32
  let v31 : BitVec 32 := Scalar.muli arg13 c512_i32
  let v32 : BitVec 32 := v31
  let v48 : Index := Scalar.indexCast v32
  let c0_34 : Index := 0#32
  ![1, v48.toNat, 0]
def k0_off13 (k0_t2 : Fin k0_t2_loop.trips) : Fin 3 → Nat :=
  let c0_38 : Index := 0#32
  let c0_i32_21 : BitVec 32 := 0#32
  let c1_i32_22 : BitVec 32 := 1#32
  let arg13 : BitVec 32 := Scf.iv c0_i32_21 c1_i32_22 k0_t2
  let c512_i32 : BitVec 32 := 512#32
  let v31 : BitVec 32 := Scalar.muli arg13 c512_i32
  let v32 : BitVec 32 := v31
  let v61 : Index := Scalar.indexCast v32
  let c0_39 : Index := 0#32
  ![0, v61.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x3x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NaRefIdeal.lean ====
abbrev S16x2048x512 : Shape := ⟨3, ![16, 2048, 512]⟩
abbrev S16x256x512 : Shape := ⟨3, ![16, 256, 512]⟩
abbrev S8x15x31 : Shape := ⟨3, ![8, 15, 31]⟩
abbrev S16x32x64x8x64 : Shape := ⟨5, ![16, 32, 64, 8, 64]⟩
abbrev S16x8x32x64x64 : Shape := ⟨5, ![16, 8, 32, 64, 64]⟩
abbrev S16x256x8x64 : Shape := ⟨4, ![16, 256, 8, 64]⟩
abbrev S16x8x256x64 : Shape := ⟨4, ![16, 8, 256, 64]⟩
abbrev S32 : Shape := ⟨1, ![32]⟩
abbrev S64 : Shape := ⟨1, ![64]⟩
abbrev S_ : Shape := ⟨0, ![]⟩
abbrev S1x32 : Shape := ⟨2, ![1, 32]⟩
abbrev S32x1 : Shape := ⟨2, ![32, 1]⟩
abbrev S32x32 : Shape := ⟨2, ![32, 32]⟩
abbrev S1x64 : Shape := ⟨2, ![1, 64]⟩
abbrev S64x1 : Shape := ⟨2, ![64, 1]⟩
abbrev S64x64 : Shape := ⟨2, ![64, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S32x64x32x64x1 : Shape := ⟨5, ![32, 64, 32, 64, 1]⟩
abbrev S32x64x32x64x2 : Shape := ⟨5, ![32, 64, 32, 64, 2]⟩
abbrev S8x32x64x32x64 : Shape := ⟨5, ![8, 32, 64, 32, 64]⟩
abbrev S16x8x32x64x32x64 : Shape := ⟨6, ![16, 8, 32, 64, 32, 64]⟩
abbrev S1x8x32x64x32x64 : Shape := ⟨6, ![1, 8, 32, 64, 32, 64]⟩
abbrev S16x8x32x64x256 : Shape := ⟨5, ![16, 8, 32, 64, 256]⟩
abbrev S16x8x32x64x2048 : Shape := ⟨5, ![16, 8, 32, 64, 2048]⟩
abbrev S16x8x32x64x2304 : Shape := ⟨5, ![16, 8, 32, 64, 2304]⟩
abbrev S16x8x32x64 : Shape := ⟨4, ![16, 8, 32, 64]⟩
abbrev S16x8x32x64x1 : Shape := ⟨5, ![16, 8, 32, 64, 1]⟩
abbrev S16x8x2048x64 : Shape := ⟨4, ![16, 8, 2048, 64]⟩

abbrev nBuf : Space → Nat
  | .hbm => 170
  | .vmem => 0
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S16x256x512, .bf16⟩
  | 4 => ⟨S16x256x512, .bf16⟩
  | 5 => ⟨S8x15x31, .f32⟩
  | 6 => ⟨S16x2048x512, .f32⟩
  | 7 => ⟨S16x2048x512, .f32⟩
  | 8 => ⟨S16x2048x512, .f32⟩
  | 9 => ⟨S16x256x512, .f32⟩
  | 10 => ⟨S16x256x512, .f32⟩
  | 11 => ⟨S16x32x64x8x64, .f32⟩
  | 12 => ⟨S16x8x32x64x64, .f32⟩
  | 13 => ⟨S16x32x64x8x64, .f32⟩
  | 14 => ⟨S16x8x32x64x64, .f32⟩
  | 15 => ⟨S16x32x64x8x64, .f32⟩
  | 16 => ⟨S16x8x32x64x64, .f32⟩
  | 17 => ⟨S16x256x8x64, .f32⟩
  | 18 => ⟨S16x8x256x64, .f32⟩
  | 19 => ⟨S16x256x8x64, .f32⟩
  | 20 => ⟨S16x8x256x64, .f32⟩
  | 21 => ⟨S32, .i32⟩
  | 22 => ⟨S64, .i32⟩
  | 23 => ⟨S_, .i32⟩
  | 24 => ⟨S32, .i32⟩
  | 25 => ⟨S32, .i32⟩
  | 26 => ⟨S_, .i32⟩
  | 27 => ⟨S_, .i32⟩
  | 28 => ⟨S_, .i32⟩
  | 29 => ⟨S32, .i32⟩
  | 30 => ⟨S32, .i32⟩
  | 31 => ⟨S_, .i32⟩
  | 32 => ⟨S32, .i32⟩
  | 33 => ⟨S32, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S1x32, .i32⟩
  | 46 => ⟨S32x1, .i32⟩
  | 47 => ⟨S32x32, .i32⟩
  | 48 => ⟨S32x32, .i32⟩
  | 49 => ⟨S32x32, .i1⟩
  | 50 => ⟨S1x32, .i32⟩
  | 51 => ⟨S32x1, .i32⟩
  | 52 => ⟨S_, .i32⟩
  | 53 => ⟨S32x1, .i32⟩
  | 54 => ⟨S32x1, .i32⟩
  | 55 => ⟨S32x32, .i32⟩
  | 56 => ⟨S32x32, .i32⟩
  | 57 => ⟨S32x32, .i1⟩
  | 58 => ⟨S32x32, .i1⟩
  | 59 => ⟨S1x64, .i32⟩
  | 60 => ⟨S64x1, .i32⟩
  | 61 => ⟨S64x64, .i32⟩
  | 62 => ⟨S64x64, .i32⟩
  | 63 => ⟨S64x64, .i1⟩
  | 64 => ⟨S1x64, .i32⟩
  | 65 => ⟨S64x1, .i32⟩
  | 66 => ⟨S_, .i32⟩
  | 67 => ⟨S64x1, .i32⟩
  | 68 => ⟨S64x1, .i32⟩
  | 69 => ⟨S64x64, .i32⟩
  | 70 => ⟨S64x64, .i32⟩
  | 71 => ⟨S64x64, .i1⟩
  | 72 => ⟨S64x64, .i1⟩
  | 73 => ⟨S1x32, .i32⟩
  | 74 => ⟨S32x1, .i32⟩
  | 75 => ⟨S32x32, .i32⟩
  | 76 => ⟨S32x32, .i32⟩
  | 77 => ⟨S32x32, .i32⟩
  | 78 => ⟨S_, .i32⟩
  | 79 => ⟨S_, .i32⟩
  | 80 => ⟨S_, .i32⟩
  | 81 => ⟨S32x32, .i32⟩
  | 82 => ⟨S32x32, .i32⟩
  | 83 => ⟨S_, .i32⟩
  | 84 => ⟨S32x32, .i32⟩
  | 85 => ⟨S32x32, .i32⟩
  | 86 => ⟨S_, .i32⟩
  | 87 => ⟨S32x32, .i32⟩
  | 88 => ⟨S32x32, .i32⟩
  | 89 => ⟨S_, .i32⟩
  | 90 => ⟨S32x32, .i32⟩
  | 91 => ⟨S32x32, .i32⟩
  | 92 => ⟨S1x64, .i32⟩
  | 93 => ⟨S64x1, .i32⟩
  | 94 => ⟨S64x64, .i32⟩
  | 95 => ⟨S64x64, .i32⟩
  | 96 => ⟨S64x64, .i32⟩
  | 97 => ⟨S_, .i32⟩
  | 98 => ⟨S_, .i32⟩
  | 99 => ⟨S_, .i32⟩
  | 100 => ⟨S64x64, .i32⟩
  | 101 => ⟨S64x64, .i32⟩
  | 102 => ⟨S_, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S_, .i32⟩
  | 109 => ⟨S64x64, .i32⟩
  | 110 => ⟨S64x64, .i32⟩
  | 111 => ⟨S32x1x32x1, .i32⟩
  | 112 => ⟨S1x64x1x64, .i32⟩
  | 113 => ⟨S_, .i32⟩
  | 114 => ⟨S32x1x32x1, .i32⟩
  | 115 => ⟨S32x1x32x1, .i1⟩
  | 116 => ⟨S_, .i32⟩
  | 117 => ⟨S32x1x32x1, .i32⟩
  | 118 => ⟨S32x1x32x1, .i32⟩
  | 119 => ⟨S32x1x32x1, .i32⟩
  | 120 => ⟨S_, .i32⟩
  | 121 => ⟨S1x64x1x64, .i32⟩
  | 122 => ⟨S1x64x1x64, .i1⟩
  | 123 => ⟨S_, .i32⟩
  | 124 => ⟨S1x64x1x64, .i32⟩
  | 125 => ⟨S1x64x1x64, .i32⟩
  | 126 => ⟨S1x64x1x64, .i32⟩
  | 127 => ⟨S32x64x32x64, .i32⟩
  | _ => ⟨S16x2048x512, .bf16⟩

abbrev hbmTy0_1 (i : Nat) : BufTy := match i % 128 with
  | 0 => ⟨S32x64x32x64, .i32⟩
  | 1 => ⟨S32x64x32x64x1, .i32⟩
  | 2 => ⟨S32x64x32x64x1, .i32⟩
  | 3 => ⟨S32x64x32x64x2, .i32⟩
  | 4 => ⟨S8x32x64x32x64, .f32⟩
  | 5 => ⟨S16x8x32x64x32x64, .f32⟩
  | 6 => ⟨S1x8x32x64x32x64, .f32⟩
  | 7 => ⟨S16x8x32x64x32x64, .f32⟩
  | 8 => ⟨S16x8x32x64x32x64, .f32⟩
  | 9 => ⟨S32x1x32x1, .i1⟩
  | 10 => ⟨S1x64x1x64, .i1⟩
  | 11 => ⟨S32x64x32x64, .i1⟩
  | 12 => ⟨S32x64x32x64, .i1⟩
  | 13 => ⟨S32x64x32x64, .i1⟩
  | 14 => ⟨S_, .f32⟩
  | 15 => ⟨S_, .f32⟩
  | 16 => ⟨S16x8x32x64x32x64, .i1⟩
  | 17 => ⟨S16x8x32x64x32x64, .f32⟩
  | 18 => ⟨S16x8x32x64x32x64, .f32⟩
  | 19 => ⟨S16x8x32x64x256, .f32⟩
  | 20 => ⟨S16x8x32x64x2048, .f32⟩
  | 21 => ⟨S16x8x32x64x2304, .f32⟩
  | 22 => ⟨S_, .f32⟩
  | 23 => ⟨S16x8x32x64, .f32⟩
  | 24 => ⟨S16x8x32x64x1, .f32⟩
  | 25 => ⟨S16x8x32x64x2304, .f32⟩
  | 26 => ⟨S16x8x32x64x2304, .f32⟩
  | 27 => ⟨S16x8x32x64x2304, .f32⟩
  | 28 => ⟨S16x8x32x64x2048, .f32⟩
  | 29 => ⟨S16x8x2048x64, .f32⟩
  | 30 => ⟨S16x8x32x64x64, .f32⟩
  | 31 => ⟨S16x8x32x64x256, .f32⟩
  | 32 => ⟨S16x8x32x64x64, .f32⟩
  | 33 => ⟨S16x8x32x64x64, .f32⟩
  | 34 => ⟨S_, .f32⟩
  | 35 => ⟨S16x8x32x64, .f32⟩
  | 36 => ⟨S16x8x32x64x1, .f32⟩
  | 37 => ⟨S16x8x32x64x64, .f32⟩
  | 38 => ⟨S16x8x32x64x64, .f32⟩
  | 39 => ⟨S16x32x64x8x64, .f32⟩
  | 40 => ⟨S16x2048x512, .f32⟩
  | 41 => ⟨S16x2048x512, .bf16⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_7 : Ref sig .tc := ⟨.hbm, 78, rfl⟩
abbrev main_c_8 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v54 : Ref sig .tc := ⟨.hbm, 85, rfl⟩
abbrev main_c_9 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_11 : Ref sig .tc := ⟨.hbm, 97, rfl⟩
abbrev main_c_12 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v64 : Ref sig .tc := ⟨.hbm, 104, rfl⟩
abbrev main_c_13 : Ref sig .tc := ⟨.hbm, 105, rfl⟩
abbrev main_v65 : Ref sig .tc := ⟨.hbm, 106, rfl⟩
abbrev main_v66 : Ref sig .tc := ⟨.hbm, 107, rfl⟩
abbrev main_c_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_15 : Ref sig .tc := ⟨.hbm, 113, rfl⟩
abbrev main_v71 : Ref sig .tc := ⟨.hbm, 114, rfl⟩
abbrev main_v72 : Ref sig .tc := ⟨.hbm, 115, rfl⟩
abbrev main_c_16 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_17 : Ref sig .tc := ⟨.hbm, 120, rfl⟩
abbrev main_v76 : Ref sig .tc := ⟨.hbm, 121, rfl⟩
abbrev main_v77 : Ref sig .tc := ⟨.hbm, 122, rfl⟩
abbrev main_c_18 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_19 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_20 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩

abbrev nD : Nat := 1
abbrev τ : Topo := Topo.v7x

variable {F : FTy → Type} [FloatOps F]
-- ==== Proj.lean ====
abbrev S16x2048x1024 : Shape := ⟨3, ![16, 2048, 1024]⟩
abbrev S16x1x1024 : Shape := ⟨3, ![16, 1, 1024]⟩
abbrev S1024x3088 : Shape := ⟨2, ![1024, 3088]⟩
abbrev S1024x1536 : Shape := ⟨2, ![1024, 1536]⟩
abbrev S1024x3072 : Shape := ⟨2, ![1024, 3072]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S16x1024 : Shape := ⟨2, ![16, 1024]⟩
abbrev S16x2048x512 : Shape := ⟨3, ![16, 2048, 512]⟩
abbrev S16x2048x128 : Shape := ⟨3, ![16, 2048, 128]⟩
abbrev S16x16x2048 : Shape := ⟨3, ![16, 16, 2048]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x128 : Shape := ⟨3, ![1, 512, 128]⟩
abbrev S1x16x512 : Shape := ⟨3, ![1, 16, 512]⟩
abbrev S512x1024 : Shape := ⟨2, ![512, 1024]⟩
abbrev S1x1024 : Shape := ⟨2, ![1, 1024]⟩
abbrev S512x3072 : Shape := ⟨2, ![512, 3072]⟩
abbrev S512x512 : Shape := ⟨2, ![512, 512]⟩
abbrev S512x128 : Shape := ⟨2, ![512, 128]⟩
abbrev S16x512 : Shape := ⟨2, ![16, 512]⟩

abbrev nBuf : Space → Nat
  | .hbm => 24
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x3088, .f32⟩
  | .hbm, ⟨4, _⟩ => ⟨S1024x1536, .f32⟩
  | .hbm, ⟨5, _⟩ => ⟨S1024x1536, .f32⟩
  | .hbm, ⟨6, _⟩ => ⟨S1024x3072, .f32⟩
  | .hbm, ⟨7, _⟩ => ⟨S1024x3072, .bf16⟩
  | .hbm, ⟨8, _⟩ => ⟨S_, .f32⟩
  | .hbm, ⟨9, _⟩ => ⟨S1024x128, .f32⟩
  | .hbm, ⟨10, _⟩ => ⟨S1024x16, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S1024x16, .f32⟩
  | .hbm, ⟨15, _⟩ => ⟨S16x1024, .f32⟩
  | .hbm, ⟨16, _⟩ => ⟨S16x2048x512, .f32⟩
  | .hbm, ⟨17, _⟩ => ⟨S16x2048x512, .bf16⟩
  | .hbm, ⟨18, _⟩ => ⟨S16x2048x512, .bf16⟩
  | .hbm, ⟨19, _⟩ => ⟨S16x2048x512, .bf16⟩
  | .hbm, ⟨20, _⟩ => ⟨S16x2048x512, .bf16⟩
  | .hbm, ⟨21, _⟩ => ⟨S16x2048x512, .bf16⟩
  | .hbm, ⟨22, _⟩ => ⟨S16x2048x128, .f32⟩
  | .hbm, ⟨23, _⟩ => ⟨S16x16x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1024x128, .f32⟩
  | .local _ .vmem, ⟨8, _⟩ => ⟨S16x1024, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x128, .f32⟩
  | .local _ .vmem, ⟨22, _⟩ => ⟨S1x512x128, .f32⟩
  | .local _ .vmem, ⟨23, _⟩ => ⟨S1x16x512, .f32⟩
  | .local _ .vmem, ⟨24, _⟩ => ⟨S1x16x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S16x2048x1024 : Shape := ⟨3, ![16, 2048, 1024]⟩
abbrev S16x1x1024 : Shape := ⟨3, ![16, 1, 1024]⟩
abbrev S1024x3088 : Shape := ⟨2, ![1024, 3088]⟩
abbrev S_ : Shape := ⟨0, ![]⟩
abbrev S16x2048x3088 : Shape := ⟨3, ![16, 2048, 3088]⟩
abbrev S16x2048x512 : Shape := ⟨3, ![16, 2048, 512]⟩
abbrev S16x2048x16 : Shape := ⟨3, ![16, 2048, 16]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x3088, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x3088, .f32⟩
  | .hbm, ⟨12, _⟩ => ⟨S16x2048x512, .f32⟩
  | .hbm, ⟨13, _⟩ => ⟨S16x2048x512, .f32⟩
  | .hbm, ⟨14, _⟩ => ⟨S16x2048x512, .f32⟩
  | .hbm, ⟨15, _⟩ => ⟨S16x2048x16, .f32⟩
  | .hbm, ⟨16, _⟩ => ⟨S16x2048x512, .f32⟩
  | .hbm, ⟨17, _⟩ => ⟨S16x2048x512, .f32⟩
  | .hbm, ⟨18, _⟩ => ⟨S16x2048x512, .f32⟩
  | .hbm, ⟨19, _⟩ => ⟨S16x2048x512, .bf16⟩
  | .hbm, ⟨20, _⟩ => ⟨S16x2048x512, .bf16⟩
  | .hbm, ⟨21, _⟩ => ⟨S_, .f32⟩
  | .hbm, ⟨22, _⟩ => ⟨S16x2048x512, .f32⟩
  | .hbm, ⟨23, _⟩ => ⟨S16x2048x512, .f32⟩
  | .hbm, ⟨24, _⟩ => ⟨S16x2048x512, .bf16⟩
  | .hbm, ⟨25, _⟩ => ⟨S16x2048x512, .bf16⟩
  | .hbm, ⟨26, _⟩ => ⟨S16x2048x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Mix.lean ====
abbrev S16x2048x512 : Shape := ⟨3, ![16, 2048, 512]⟩
abbrev S16x2048x1024 : Shape := ⟨3, ![16, 2048, 1024]⟩
abbrev S16x1x1024 : Shape := ⟨3, ![16, 1, 1024]⟩
abbrev S1024x1024 : Shape := ⟨2, ![1024, 1024]⟩
abbrev S1024 : Shape := ⟨1, ![1024]⟩
abbrev S1x1024 : Shape := ⟨2, ![1, 1024]⟩
abbrev S1024x32768 : Shape := ⟨2, ![1024, 32768]⟩
abbrev S1x512x512 : Shape := ⟨3, ![1, 512, 512]⟩
abbrev S1x512x1024 : Shape := ⟨3, ![1, 512, 1024]⟩
abbrev S1x1x1024 : Shape := ⟨3, ![1, 1, 1024]⟩
abbrev S1024x512 : Shape := ⟨2, ![1024, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S16x1x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16x1x1024, .f32⟩
  | .hbm, ⟨8, _⟩ => ⟨S16x1x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16x2048x1024, .f32⟩
  | .hbm, ⟨13, _⟩ => ⟨S1024x32768, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1024x512, .bf16⟩
  | .local _ .vmem, ⟨18, _⟩ => ⟨S1024x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S16x2048x512 : Shape := ⟨3, ![16, 2048, 512]⟩
abbrev S16x2048x1024 : Shape := ⟨3, ![16, 2048, 1024]⟩
abbrev S16x1x1024 : Shape := ⟨3, ![16, 1, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩
abbrev S1024x32768 : Shape := ⟨2, ![1024, 32768]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S16x1x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16x1x1024, .f32⟩
  | .hbm, ⟨8, _⟩ => ⟨S16x1x1024, .f32⟩
  | .hbm, ⟨9, _⟩ => ⟨S16x2048x512, .f32⟩
  | .hbm, ⟨10, _⟩ => ⟨S16x2048x512, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S1x1x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | .hbm, ⟨56, _⟩ => ⟨S1024x32768, .f32⟩
  | .hbm, ⟨57, _⟩ => ⟨S1024x32768, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Ctx.lean ====
abbrev S16x256x512 : Shape := ⟨3, ![16, 256, 512]⟩
abbrev S1x256x128 : Shape := ⟨3, ![1, 256, 128]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x256x512, .bf16⟩
  | .hbm, ⟨1, _⟩ => ⟨S16x256x512, .bf16⟩
  | .hbm, ⟨2, _⟩ => ⟨S16x256x512, .bf16⟩
  | .hbm, ⟨3, _⟩ => ⟨S16x256x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S16x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxRefIdeal.lean ====
abbrev S16x256x512 : Shape := ⟨3, ![16, 256, 512]⟩
abbrev S16x256x8x64 : Shape := ⟨4, ![16, 256, 8, 64]⟩
abbrev S16x8x256x64 : Shape := ⟨4, ![16, 8, 256, 64]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x256x512, .bf16⟩
  | .hbm, ⟨1, _⟩ => ⟨S16x256x512, .bf16⟩
  | .hbm, ⟨2, _⟩ => ⟨S16x256x512, .bf16⟩
  | .hbm, ⟨3, _⟩ => ⟨S16x256x512, .f32⟩
  | .hbm, ⟨4, _⟩ => ⟨S16x256x512, .f32⟩
  | .hbm, ⟨5, _⟩ => ⟨S16x256x512, .f32⟩
  | .hbm, ⟨6, _⟩ => ⟨S16x256x8x64, .f32⟩
  | .hbm, ⟨7, _⟩ => ⟨S16x8x256x64, .f32⟩
  | .hbm, ⟨8, _⟩ => ⟨S16x256x8x64, .f32⟩
  | .hbm, ⟨9, _⟩ => ⟨S16x8x256x64, .f32⟩
  | .hbm, ⟨10, _⟩ => ⟨S16x256x8x64, .f32⟩
  | .hbm, ⟨11, _⟩ => ⟨S16x8x256x64, .f32⟩
  | .hbm, ⟨12, _⟩ => ⟨S16x8x256x256, .f32⟩
  | .hbm, ⟨13, _⟩ => ⟨S_, .f32⟩
  | .hbm, ⟨14, _⟩ => ⟨S16x8x256, .f32⟩
  | .hbm, ⟨15, _⟩ => ⟨S16x8x256x1, .f32⟩
  | .hbm, ⟨16, _⟩ => ⟨S16x8x256x256, .f32⟩
  | .hbm, ⟨17, _⟩ => ⟨S16x8x256x256, .f32⟩
  | .hbm, ⟨18, _⟩ => ⟨S16x8x256x256, .f32⟩
  | .hbm, ⟨19, _⟩ => ⟨S16x8x256x64, .f32⟩
  | .hbm, ⟨20, _⟩ => ⟨S_, .f32⟩
  | .hbm, ⟨21, _⟩ => ⟨S16x8x256, .f32⟩
  | .hbm, ⟨22, _⟩ => ⟨S16x8x256x1, .f32⟩
  | .hbm, ⟨23, _⟩ => ⟨S16x8x256x64, .f32⟩
  | .hbm, ⟨24, _⟩ => ⟨S16x8x256x64, .f32⟩
  | .hbm, ⟨25, _⟩ => ⟨S16x256x8x64, .f32⟩
  | .hbm, ⟨26, _⟩ => ⟨S16x256x512, .f32⟩
  | .hbm, ⟨27, _⟩ => ⟨S16x256x512, .bf16⟩
  | _, _ => ⟨S16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Peer.lean ====
abbrev S1024x32768 : Shape := ⟨2, ![1024, 32768]⟩
abbrev S16384x1024 : Shape := ⟨2, ![16384, 1024]⟩
abbrev S8x128x32768 : Shape := ⟨3, ![8, 128, 32768]⟩
abbrev S32768x1024 : Shape := ⟨2, ![32768, 1024]⟩
abbrev S16x1x1024 : Shape := ⟨3, ![16, 1, 1024]⟩
abbrev S1024 : Shape := ⟨1, ![1024]⟩
abbrev S1024x16384 : Shape := ⟨2, ![1024, 16384]⟩
abbrev S1x1024 : Shape := ⟨2, ![1, 1024]⟩
abbrev S1024x512 : Shape := ⟨2, ![1024, 512]⟩
abbrev S2048x1024 : Shape := ⟨2, ![2048, 1024]⟩
abbrev S1024x2048 : Shape := ⟨2, ![1024, 2048]⟩
abbrev S8x16x512 : Shape := ⟨3, ![8, 16, 512]⟩
abbrev S8x128x512 : Shape := ⟨3, ![8, 128, 512]⟩
abbrev S512x1024 : Shape := ⟨2, ![512, 1024]⟩
abbrev S1x1x1024 : Shape := ⟨3, ![1, 1, 1024]⟩
abbrev S2048x512 : Shape := ⟨2, ![2048, 512]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S1024x32768, .bf16⟩
  | .hbm, ⟨1, _⟩ => ⟨S16384x1024, .f32⟩
  | .hbm, ⟨2, _⟩ => ⟨S16384x1024, .f32⟩
  | .hbm, ⟨3, _⟩ => ⟨S8x128x32768, .f32⟩
  | .hbm, ⟨4, _⟩ => ⟨S8x128x32768, .f32⟩
  | .hbm, ⟨5, _⟩ => ⟨S8x128x32768, .bf16⟩
  | .hbm, ⟨6, _⟩ => ⟨S8x128x32768, .bf16⟩
  | .hbm, ⟨7, _⟩ => ⟨S32768x1024, .f32⟩
  | .hbm, ⟨8, _⟩ => ⟨S16x1x1024, .f32⟩
  | .hbm, ⟨9, _⟩ => ⟨S1024, .f32⟩
  | .hbm, ⟨10, _⟩ => ⟨S1024, .f32⟩
  | .hbm, ⟨11, _⟩ => ⟨S16384x1024, .bf16⟩
  | .hbm, ⟨12, _⟩ => ⟨S1024x16384, .f32⟩
  | .hbm, ⟨13, _⟩ => ⟨S1024x16384, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S8x16x512, .f32⟩
  | .local _ .vmem, ⟨7, _⟩ => ⟨S8x16x512, .f32⟩
  | .local _ .vmem, ⟨8, _⟩ => ⟨S8x16x512, .f32⟩
  | .local _ .vmem, ⟨9, _⟩ => ⟨S8x16x512, .f32⟩
  | .local _ .vmem, ⟨10, _⟩ => ⟨S8x128x512, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1024x512, .f32⟩
  | .local _ .vmem, ⟨23, _⟩ => ⟨S2048x512, .bf16⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v2609 : BitVec 1 := Scalar.cmpi .eq arg1 c7_i32
  let v2610 : BitVec 32 := Scalar.extui v2609
  let c0_i32_1616 : BitVec 32 := 0#32
  let v2611 : BitVec 1 := Scalar.cmpi .ne v2610 c0_i32_1616
  v2611

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PeerIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | _ => none
-- ==== PeerRefIdeal.lean ====
abbrev S1024x32768 : Shape := ⟨2, ![1024, 32768]⟩
abbrev S16384x1024 : Shape := ⟨2, ![16384, 1024]⟩
abbrev S8x128x32768 : Shape := ⟨3, ![8, 128, 32768]⟩
abbrev S32768x1024 : Shape := ⟨2, ![32768, 1024]⟩
abbrev S16x1x1024 : Shape := ⟨3, ![16, 1, 1024]⟩
abbrev S1024 : Shape := ⟨1, ![1024]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S_ : Shape := ⟨0, ![]⟩
abbrev S128x128x32768 : Shape := ⟨3, ![128, 128, 32768]⟩
abbrev S16384x32768 : Shape := ⟨2, ![16384, 32768]⟩
abbrev S32768x16384 : Shape := ⟨2, ![32768, 16384]⟩
abbrev S16x2048x1024 : Shape := ⟨3, ![16, 2048, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S16384x1024, .f32⟩
  | .hbm, ⟨2, _⟩ => ⟨S16384x1024, .f32⟩
  | .hbm, ⟨3, _⟩ => ⟨S8x128x32768, .f32⟩
  | .hbm, ⟨4, _⟩ => ⟨S8x128x32768, .f32⟩
  | .hbm, ⟨5, _⟩ => ⟨S8x128x32768, .bf16⟩
  | .hbm, ⟨6, _⟩ => ⟨S8x128x32768, .bf16⟩
  | .hbm, ⟨7, _⟩ => ⟨S32768x1024, .f32⟩
  | .hbm, ⟨8, _⟩ => ⟨S16x1x1024, .f32⟩
  | .hbm, ⟨9, _⟩ => ⟨S1024, .f32⟩
  | .hbm, ⟨10, _⟩ => ⟨S1024, .f32⟩
  | .hbm, ⟨11, _⟩ => ⟨S32768x1024, .bf16⟩
  | .hbm, ⟨12, _⟩ => ⟨S32768x1024, .f32⟩
  | .hbm, ⟨13, _⟩ => ⟨S8x128x32768, .f32⟩
  | .hbm, ⟨14, _⟩ => ⟨S8x1x128x32768, .f32⟩
  | .hbm, ⟨15, _⟩ => ⟨S8x128x1x32768, .f32⟩
  | .hbm, ⟨16, _⟩ => ⟨S8x128x128x32768, .f32⟩
  | .hbm, ⟨17, _⟩ => ⟨S8x128x128x32768, .f32⟩
  | .hbm, ⟨18, _⟩ => ⟨S8x128x128x32768, .i1⟩
  | .hbm, ⟨19, _⟩ => ⟨S8x128x32768, .f32⟩
  | .hbm, ⟨20, _⟩ => ⟨S8x1x128x32768, .f32⟩
  | .hbm, ⟨21, _⟩ => ⟨S_, .f32⟩
  | .hbm, ⟨22, _⟩ => ⟨S_, .f32⟩
  | .hbm, ⟨23, _⟩ => ⟨S8x128x128x32768, .f32⟩
  | .hbm, ⟨24, _⟩ => ⟨S8x128x128x32768, .f32⟩
  | .hbm, ⟨25, _⟩ => ⟨S8x128x128x32768, .f32⟩
  | .hbm, ⟨26, _⟩ => ⟨S8x128x1x32768, .f32⟩
  | .hbm, ⟨27, _⟩ => ⟨S8x128x128x32768, .f32⟩
  | .hbm, ⟨28, _⟩ => ⟨S8x128x128x32768, .f32⟩
  | .hbm, ⟨29, _⟩ => ⟨S_, .f32⟩
  | .hbm, ⟨30, _⟩ => ⟨S128x128x32768, .f32⟩
  | .hbm, ⟨31, _⟩ => ⟨S16384x32768, .f32⟩
  | .hbm, ⟨32, _⟩ => ⟨S1024x32768, .f32⟩
  | .hbm, ⟨33, _⟩ => ⟨S16384x32768, .f32⟩
  | .hbm, ⟨34, _⟩ => ⟨S16384x32768, .f32⟩
  | .hbm, ⟨35, _⟩ => ⟨S16384x32768, .f32⟩
  | .hbm, ⟨36, _⟩ => ⟨S_, .f32⟩
  | .hbm, ⟨37, _⟩ => ⟨S16384x32768, .f32⟩
  | .hbm, ⟨38, _⟩ => ⟨S16384x32768, .f32⟩
  | .hbm, ⟨39, _⟩ => ⟨S16384x32768, .f32⟩
  | .hbm, ⟨40, _⟩ => ⟨S_, .f32⟩
  | .hbm, ⟨41, _⟩ => ⟨S16384x32768, .f32⟩
  | .hbm, ⟨42, _⟩ => ⟨S16384x32768, .f32⟩
  | .hbm, ⟨43, _⟩ => ⟨S16384x32768, .f32⟩
  | .hbm, ⟨44, _⟩ => ⟨S_, .f32⟩
  | .hbm, ⟨45, _⟩ => ⟨S16384x32768, .f32⟩
  | .hbm, ⟨46, _⟩ => ⟨S16384x32768, .f32⟩
  | .hbm, ⟨47, _⟩ => ⟨S_, .f32⟩
  | .hbm, ⟨48, _⟩ => ⟨S16384x32768, .f32⟩
  | .hbm, ⟨49, _⟩ => ⟨S16384x32768, .f32⟩
  | .hbm, ⟨50, _⟩ => ⟨S16384x32768, .f32⟩
  | .hbm, ⟨51, _⟩ => ⟨S16384x32768, .f32⟩
  | .hbm, ⟨52, _⟩ => ⟨S32768x16384, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Proof.NaFrame.lean ====
/-
  The neighbourhood attention of the latent tokens terminates and leaves its arguments as they were. What the kernel leaves
  in its output is named only for the idealised program, so here the output's contents are forgotten.
-/
module

public import proofs.«01_k».proof.Proof.Gen.Na.Frame.Runs
public import Idealize.ShloMosaic.Lib.Claim

@[expose] public section

-- membership in a rectangle of production extents (`View.cover_of_tiled`): the elaborator's structural look
-- recurses once per coordinate of the long axes
set_option maxRecDepth 16384

noncomputable section

namespace Cert.Na.Out

open Cert.Na Cert.Na.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2x3x256x704 .f32) (harg7 : arg7.IsWhole) (arg8 : Memref sig .tc .vmem S1x2048x128 .bf16) (harg8 : arg8.IsWhole) (arg9 : Memref sig .tc .vmem S2x2048x256 .f32) (harg9 : arg9.IsWhole) (arg10 : Memref sig .tc .vmem S2x2048x256 .bf16) (harg10 : arg10.IsWhole) (arg11 : Memref sig .tc .vmem S2x2048x128 .f32) (harg11 : arg11.IsWhole) (arg12 : Memref sig .tc .vmem S2x2048x128 .f32) (harg12 : arg12.IsWhole)
    (x0 : Vec F S1x2048x128 .bf16) (x1 : Vec F S1x2048x128 .bf16) (x2 : Vec F S1x2048x128 .bf16) (x3 : Vec F S1x256x128 .bf16) (x4 : Vec F S1x256x128 .bf16) (x5 : Vec F S2x3x256x704 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_na_latent i arg2 harg2 arg3 harg3 arg4 harg4 arg5 harg5 arg6 harg6 arg7 harg7 arg8 harg8 arg9 harg9 arg10 harg10 arg11 harg11 arg12 harg12) K := by
    intro E K
    simp only [cc0_na_latent_eq_skeleton]; unfold cc0_na_latent_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame read off a run whose output is forgotten. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forgotten m ρ (fun c => (dats m 0 c).toRForget forgets0) (A_eq m) (run_main m ρ)

/-- THE FRAME: `Cert.quiescent_Na`'s statement (Defs.lean) at any `F` — Proof.lean cites it at `Bits`:
    `theorem Cert.Proof.claim : Cert.Claim := ⟨Cert.Na.Gen.facts, fun m ρ _ => Cert.Na.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Na.Out

end
-- ==== Proof.ProjValue.lean ====
/-
  The in-projection: each of the six product arrays the kernel leaves is the matching slice of one modulated
  product with the whole weight matrix, as the reference writes it.
-/
module

public import proofs.«01_k».proof.Proof.Gen.ProjIdeal.Frame
public import proofs.«01_k».proof.Proof.Gen.ProjRefIdeal.Read
public import Idealize.ShloMosaic.Lib.Pipeline.ValueKit

set_option maxRecDepth 16384

@[expose] public section

noncomputable section

open Idealize.ShloMosaic Idealize.ShloMosaic.TcCoe Idealize.SL.Sem
open Idealize.ShloMosaic.Pipeline (Dat)

namespace Cert.ProjIdeal.Out

open Cert.ProjIdeal Cert.ProjIdeal.Gen
open Cert.ProjRefIdeal.Read (val_main_cst val_main_v0 val_main_v1 val_main_v2 val_main_v3 val_main_v4 val_main_v5
  val_main_v6 val_main_v7 val_main_v8 val_main_v9 val_main_v11 val_main_v12 val_main_v13 val_main_v14 val_main_v15
  val_main_cst_0 val_main_v16 val_main_v17 val_main_v18 val_main_v19 val_main_v20)

variable (m : (ℓ : Loc nD τ sig) → Buf (Elt Ideal) ℓ)

/-- Where every window's block sits at grid point `t`: batch `t / 4`, token tile `t % 4`. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0] :=
  (by decide +kernel : ∀ t : Fin grid0.N, _)

/-- The main weight columns are the weight matrix with the sixteen gate columns 1536 … 1551 taken out. -/
theorem wread (c : Dev nD) (t : Fin cfg0.N) (k : Fin 1024) (j : Fin 3072) (j' : Fin 3088)
    (h : (j' : ℕ) = if (j : ℕ) < 1536 then (j : ℕ) else (j : ℕ) + 16) :
    V m c main_v3 ((win0_3.blk t).view.emb (ix2 k j)) = m ((c : Thread nD τ).loc main_arg3) (ix2 k j') := by
  have he : (win0_3.blk t).view.emb (ix2 k j) = (ix2 k j : S1024x3072.Idx) := by blk_ext [idx t]
  rw [he]
  entry_read
  pointwise
  by_cases hj : (j : ℕ) < 1536
  · rw [if_pos hj] at h
    simp only [dif_pos hj]
    exact congrArg _ (by idx_ext <;> omega)
  · rw [if_neg hj] at h
    simp only [dif_neg hj]
    exact congrArg _ (by idx_ext <;> omega)

/-- What a grid point stores for the query and key columns of the recurrence, index by index. -/
theorem point6 (c : Dev nD) (t : Fin cfg0.N) (y) :
    k0_pay7 (iblk m c 0 t) (iblk m c 1 t) (iblk m c 2 t) (iblk m c 3 t) y
    = val_main_v7 (m ((c : Thread nD τ).loc main_arg0)) (m ((c : Thread nD τ).loc main_arg1))
      (m ((c : Thread nD τ).loc main_arg2)) (m ((c : Thread nD τ).loc main_arg3)) (((cfg0.win 6).blk t).view.emb y) := by
  pointwise [k0_pay7, k0_pay3, k0_pay2, val_main_cst, val_main_v0, val_main_v1, val_main_v2, val_main_v3, val_main_v4, val_main_v5, val_main_v6, val_main_v7]
  blk_point [iblk, V, idx t]
  all_goals exact wread m c t _ _ _ (by
    have hy : (y 2 : ℕ) < 512 := (y 2).isLt
    show (y 2 : ℕ) = if (y 2 : ℕ) < 1536 then (y 2 : ℕ) else (y 2 : ℕ) + 16
    split_ifs <;> omega)

/-- The array of the query and key columns of the recurrence after the run. -/
theorem final6 (c : Dev nD) : (dats m 0 c).arrAt 6 (cfgs 0).N
    = val_main_v7 (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ y => ?_
  blk_simp
  rw [after0_6]; frame_out
  exact point6 m c t y

/-- What a grid point stores for the value columns of the recurrence, index by index. -/
theorem point7 (c : Dev nD) (t : Fin cfg0.N) (y) :
    k0_pay8 (iblk m c 0 t) (iblk m c 1 t) (iblk m c 2 t) (iblk m c 3 t) y
    = val_main_v14 (m ((c : Thread nD τ).loc main_arg0)) (m ((c : Thread nD τ).loc main_arg1))
      (m ((c : Thread nD τ).loc main_arg2)) (m ((c : Thread nD τ).loc main_arg3)) (((cfg0.win 7).blk t).view.emb y) := by
  pointwise [k0_pay8, k0_pay3, k0_pay2, val_main_cst, val_main_v0, val_main_v1, val_main_v2, val_main_v3, val_main_v4, val_main_v5, val_main_v6, val_main_v8, val_main_v14]
  blk_point [iblk, V, idx t]
  all_goals exact wread m c t _ _ _ (by
    have hy : (y 2 : ℕ) < 512 := (y 2).isLt
    show 512 + (y 2 : ℕ) = if 512 + (y 2 : ℕ) < 1536 then 512 + (y 2 : ℕ) else 512 + (y 2 : ℕ) + 16
    split_ifs <;> omega)

/-- The array of the value columns of the recurrence after the run. -/
theorem final7 (c : Dev nD) : (dats m 0 c).arrAt 7 (cfgs 0).N
    = val_main_v14 (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

/-- What a grid point stores for the output-gate columns of the recurrence, index by index. -/
theorem point8 (c : Dev nD) (t : Fin cfg0.N) (y) :
    k0_pay9 (iblk m c 0 t) (iblk m c 1 t) (iblk m c 2 t) (iblk m c 3 t) y
    = val_main_v15 (m ((c : Thread nD τ).loc main_arg0)) (m ((c : Thread nD τ).loc main_arg1))
      (m ((c : Thread nD τ).loc main_arg2)) (m ((c : Thread nD τ).loc main_arg3)) (((cfg0.win 8).blk t).view.emb y) := by
  pointwise [k0_pay9, k0_pay3, k0_pay2, val_main_cst, val_main_v0, val_main_v1, val_main_v2, val_main_v3, val_main_v4, val_main_v5, val_main_v6, val_main_v9, val_main_v15]
  blk_point [iblk, V, idx t]
  all_goals exact wread m c t _ _ _ (by
    have hy : (y 2 : ℕ) < 512 := (y 2).isLt
    show 1024 + (y 2 : ℕ) = if 1024 + (y 2 : ℕ) < 1536 then 1024 + (y 2 : ℕ) else 1024 + (y 2 : ℕ) + 16
    split_ifs <;> omega)

/-- The array of the output-gate columns of the recurrence after the run. -/
theorem final8 (c : Dev nD) : (dats m 0 c).arrAt 8 (cfgs 0).N
    = val_main_v15 (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  blk_simp
  rw [after0_8]; frame_out
  exact point8 m c t y

/-- What a grid point stores for the scaled queries of the attention, index by index. -/
theorem point9 (c : Dev nD) (t : Fin cfg0.N) (y) :
    k0_pay10 (k0_pay4 (iblk m c 0 t) (iblk m c 1 t) (iblk m c 2 t) (iblk m c 3 t)) y
    = val_main_v18 (m ((c : Thread nD τ).loc main_arg0)) (m ((c : Thread nD τ).loc main_arg1))
      (m ((c : Thread nD τ).loc main_arg2)) (m ((c : Thread nD τ).loc main_arg3)) (((cfg0.win 9).blk t).view.emb y) := by
  pointwise [k0_pay10, k0_pay3, k0_pay2, k0_pay4, val_main_cst, val_main_v0, val_main_v1, val_main_v2, val_main_v3, val_main_v4, val_main_v5, val_main_v6, val_main_v11, val_main_cst_0, val_main_v16, val_main_v17, val_main_v18]
  blk_point [iblk, V, idx t]
  all_goals exact wread m c t _ _ _ (by
    have hy : (y 2 : ℕ) < 512 := (y 2).isLt
    show 1552 + (y 2 : ℕ) = if 1536 + (y 2 : ℕ) < 1536 then 1536 + (y 2 : ℕ) else 1536 + (y 2 : ℕ) + 16
    split_ifs <;> omega)

/-- The array of the scaled queries of the attention after the run. -/
theorem final9 (c : Dev nD) : (dats m 0 c).arrAt 9 (cfgs 0).N
    = val_main_v18 (m ((c : Thread nD τ).loc main_arg0)) (m ((c : Thread nD τ).loc main_arg1))
      (m ((c : Thread nD τ).loc main_arg2)) (m ((c : Thread nD τ).loc main_arg3)) := by
  refine (dats m 0 c).arrAt_eq_of_covers 9 _ (by decide +kernel) fun t _ y => ?_
  blk_simp
  rw [after0_9]; frame_out
  exact point9 m c t y

/-- What a grid point stores for the keys of the attention, index by index. -/
theorem point10 (c : Dev nD) (t : Fin cfg0.N) (y) :
    k0_pay11 (k0_pay5 (iblk m c 0 t) (iblk m c 1 t) (iblk m c 2 t) (iblk m c 3 t)) y
    = val_main_v19 (m ((c : Thread nD τ).loc main_arg0)) (m ((c : Thread nD τ).loc main_arg1))
      (m ((c : Thread nD τ).loc main_arg2)) (m ((c : Thread nD τ).loc main_arg3)) (((cfg0.win 10).blk t).view.emb y) := by
  pointwise [k0_pay11, k0_pay3, k0_pay2, k0_pay5, val_main_cst, val_main_v0, val_main_v1, val_main_v2, val_main_v3, val_main_v4, val_main_v5, val_main_v6, val_main_v12, val_main_v19]
  blk_point [iblk, V, idx t]
  all_goals exact wread m c t _ _ _ (by
    have hy : (y 2 : ℕ) < 512 := (y 2).isLt
    show 2064 + (y 2 : ℕ) = if 2048 + (y 2 : ℕ) < 1536 then 2048 + (y 2 : ℕ) else 2048 + (y 2 : ℕ) + 16
    split_ifs <;> omega)

/-- The array of the keys of the attention after the run. -/
theorem final10 (c : Dev nD) : (dats m 0 c).arrAt 10 (cfgs 0).N
    = val_main_v19 (m ((c : Thread nD τ).loc main_arg0)) (m ((c : Thread nD τ).loc main_arg1))
      (m ((c : Thread nD τ).loc main_arg2)) (m ((c : Thread nD τ).loc main_arg3)) := by
  refine (dats m 0 c).arrAt_eq_of_covers 10 _ (by decide +kernel) fun t _ y => ?_
  blk_simp
  rw [after0_10]; frame_out
  exact point10 m c t y

/-- What a grid point stores for the values of the attention, index by index. -/
theorem point11 (c : Dev nD) (t : Fin cfg0.N) (y) :
    k0_pay12 (k0_pay6 (iblk m c 0 t) (iblk m c 1 t) (iblk m c 2 t) (iblk m c 3 t)) y
    = val_main_v20 (m ((c : Thread nD τ).loc main_arg0)) (m ((c : Thread nD τ).loc main_arg1))
      (m ((c : Thread nD τ).loc main_arg2)) (m ((c : Thread nD τ).loc main_arg3)) (((cfg0.win 11).blk t).view.emb y) := by
  pointwise [k0_pay12, k0_pay3, k0_pay2, k0_pay6, val_main_cst, val_main_v0, val_main_v1, val_main_v2, val_main_v3, val_main_v4, val_main_v5, val_main_v6, val_main_v13, val_main_v20]
  blk_point [iblk, V, idx t]
  all_goals exact wread m c t _ _ _ (by
    have hy : (y 2 : ℕ) < 512 := (y 2).isLt
    show 2576 + (y 2 : ℕ) = if 2560 + (y 2 : ℕ) < 1536 then 2560 + (y 2 : ℕ) else 2560 + (y 2 : ℕ) + 16
    split_ifs <;> omega)

/-- The array of the values of the attention after the run. -/
theorem final11 (c : Dev nD) : (dats m 0 c).arrAt 11 (cfgs 0).N
    = val_main_v20 (m ((c : Thread nD τ).loc main_arg0)) (m ((c : Thread nD τ).loc main_arg1))
      (m ((c : Thread nD τ).loc main_arg2)) (m ((c : Thread nD τ).loc main_arg3)) := by
  refine (dats m 0 c).arrAt_eq_of_covers 11 _ (by decide +kernel) fun t _ y => ?_
  blk_simp
  rw [after0_11]; frame_out
  exact point11 m c t y

end Cert.ProjIdeal.Out
-- ==== Proof.MixPoint.lean ====
/-
  The output projection with its residual and layer norm: both arrays the kernel leaves are the reference's.
-/
module

public import proofs.«01_k».proof.Proof.Gen.MixIdeal.Frame
public import proofs.«01_k».proof.Proof.Gen.MixRefIdeal.Read
public import Idealize.ShloMosaic.Lib.Pipeline.ValueKit

set_option maxRecDepth 16384
set_option maxHeartbeats 1000000

@[expose] public section

noncomputable section

open Idealize.ShloMosaic Idealize.ShloMosaic.TcCoe Idealize.SL.Sem
open Idealize.ShloMosaic.Pipeline (Dat)

namespace Cert.MixIdeal.Out

open Cert.MixIdeal Cert.MixIdeal.Gen
open Cert.MixRefIdeal.Read (val_main_v0 val_main_v1 val_main_v2 val_main_v3 val_main_cst val_main_v4 val_main_v5
  val_main_v6 val_main_v7 val_main_v8 val_main_cst_0 val_main_v9 val_main_v10 val_main_cst_1 val_main_v11 val_main_v12
  val_main_v13 val_main_v14 val_main_v15 val_main_cst_2 val_main_v16 val_main_v17 val_main_cst_3 val_main_v18
  val_main_v19 val_main_v20 val_main_v21 val_main_cst_4 val_main_v22 val_main_v23 val_main_v24 val_main_v25 val_main_v26
  val_main_v27 val_main_v28 val_main_v29 val_main_v30 val_main_v31 val_main_v32 val_main_cst_5 val_main_v33 val_main_v34
  val_main_v35 val_main_v36 val_main_v37 val_main_v38 val_main_v39 val_main_v40 val_main_v41)

variable (m : (ℓ : Loc nD τ sig) → Buf (Elt Ideal) ℓ)

/-- Where every window's block sits at grid point `t`: batch `t / 4`, token tile `t % 4`. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0]
    ∧ win0_4.index t = ![0, 0] ∧ win0_5.index t = ![0, 0] ∧ win0_6.index t = ![0, 0]
    ∧ win0_7.index t = ![t.val / 4, 0, 0] ∧ win0_8.index t = ![t.val / 4, 0, 0]
    ∧ win0_9.index t = ![t.val / 4, t.val % 4, 0] ∧ win0_10.index t = ![0, t.val] :=
  (by decide +kernel : ∀ t : Fin grid0.N, _)

/-- The row and column of the whole residual stream that element `y` of grid point `t`'s tile is. -/
abbrev place (t : Fin cfg0.N) (y : S512x1024.Idx) : S16x2048x1024.Idx :=
  ix3 ⟨t.val / 4, by have := t.isLt; show t.val / 4 < 16; have h : cfg0.N = 64 := by decide
                     omega⟩ ⟨t.val % 4 * 512 + (y 0 : ℕ), by have := (y 0).isLt; show _ < 2048; have h : (y 0 : ℕ) < 512 := this; omega⟩ (y 1)

/-- The residual sum less its mean: one tile's elements are the reference's at their place. -/
theorem centred (c : Dev nD) (t : Fin cfg0.N) (y : S512x1024.Idx) :
    k0_pay6 (iblk m c 0 t) (iblk m c 1 t) (iblk m c 4 t) (iblk m c 2 t) (iblk m c 3 t) y
    = val_main_v14 (m ((c : Thread nD τ).loc main_arg0)) (m ((c : Thread nD τ).loc main_arg1)) (m ((c : Thread nD τ).loc main_arg2)) (m ((c : Thread nD τ).loc main_arg3)) (m ((c : Thread nD τ).loc main_arg4)) (place t y) := by
  pointwise [k0_pay6, val_main_v0, val_main_v1, val_main_v2, val_main_v3,
    val_main_cst, val_main_v4, val_main_v5, val_main_v6, val_main_v7, val_main_v8, val_main_cst_0, val_main_v9,
    val_main_v10, val_main_cst_1, val_main_v11, val_main_v12, val_main_v13, val_main_v14]
  blk_point [iblk, V, idx t]
  all_goals rfl

/-- The variance of a row. -/
theorem variance (c : Dev nD) (t : Fin cfg0.N) (y : S512x1.Idx) :
    k0_pay7 (iblk m c 0 t) (iblk m c 1 t) (iblk m c 4 t) (iblk m c 2 t) (iblk m c 3 t) y
    = val_main_v19 (m ((c : Thread nD τ).loc main_arg0)) (m ((c : Thread nD τ).loc main_arg1)) (m ((c : Thread nD τ).loc main_arg2)) (m ((c : Thread nD τ).loc main_arg3)) (m ((c : Thread nD τ).loc main_arg4)) (ix3 (place t (ix2 (y 0) 0) 0) (place t (ix2 (y 0) 0) 1) 0) := by
  pointwise [k0_pay7, val_main_v15, val_main_cst_2, val_main_v16, val_main_v17, val_main_cst_3, val_main_v18,
    val_main_v19, centred m c t]
  rfl

/-- The normalised row, index by index. -/
theorem normed (c : Dev nD) (t : Fin cfg0.N) (y : S512x1024.Idx) :
    k0_pay1 (k0_pay4 (iblk m c 5 t)) (k0_pay5 (iblk m c 6 t)) (k0_pay6 (iblk m c 0 t) (iblk m c 1 t) (iblk m c 4 t) (iblk m c 2 t) (iblk m c 3 t))
      (k0_pay7 (iblk m c 0 t) (iblk m c 1 t) (iblk m c 4 t) (iblk m c 2 t) (iblk m c 3 t)) k0_pay8 y
    = val_main_v32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (place t y) := by
  have h21 : val_main_v21 (m ((c : Thread nD τ).loc main_arg0)) (m ((c : Thread nD τ).loc main_arg1)) (m ((c : Thread nD τ).loc main_arg2)) (m ((c : Thread nD τ).loc main_arg3)) (m ((c : Thread nD τ).loc main_arg4)) = val_main_v14 (m ((c : Thread nD τ).loc main_arg0)) (m ((c : Thread nD τ).loc main_arg1)) (m ((c : Thread nD τ).loc main_arg2)) (m ((c : Thread nD τ).loc main_arg3)) (m ((c : Thread nD τ).loc main_arg4)) := rfl
  pointwise [k0_pay1, k0_pay4, k0_pay5, k0_pay8, h21, val_main_cst_4,
    val_main_v22, val_main_v23, val_main_v24, val_main_v25, val_main_v26, val_main_v27, val_main_v28, val_main_v29,
    val_main_v30, val_main_v31, val_main_v32, centred m c t, variance m c t]
  blk_point [iblk, V, idx t]

/-- What a grid point stores of the normalised residual stream, index by index. -/
theorem point9 (c : Dev nD) (t : Fin cfg0.N) (y : S1x512x1024.Idx) :
    k0_pay2 (k0_pay4 (iblk m c 5 t)) (k0_pay5 (iblk m c 6 t)) (k0_pay6 (iblk m c 0 t) (iblk m c 1 t) (iblk m c 4 t) (iblk m c 2 t) (iblk m c 3 t))
      (k0_pay7 (iblk m c 0 t) (iblk m c 1 t) (iblk m c 4 t) (iblk m c 2 t) (iblk m c 3 t)) k0_pay8 y
    = val_main_v32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay2, normed m c t]
  blk_point [idx t]
  all_goals first
    | rfl
    | (simp only [place, ix3]; omega)
    | (simp [place, ix3]; omega)

/-- What a grid point stores of the modulated tokens, features first, index by index. -/
theorem point10 (c : Dev nD) (t : Fin cfg0.N) (y : S1024x512.Idx) :
    k0_pay3 (k0_pay4 (iblk m c 5 t)) (k0_pay5 (iblk m c 6 t)) (k0_pay6 (iblk m c 0 t) (iblk m c 1 t) (iblk m c 4 t) (iblk m c 2 t) (iblk m c 3 t))
      (k0_pay7 (iblk m c 0 t) (iblk m c 1 t) (iblk m c 4 t) (iblk m c 2 t) (iblk m c 3 t)) k0_pay8 (iblk m c 7 t) (iblk m c 8 t) y
    = val_main_v41 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  pointwise [k0_pay3, normed m c t, val_main_cst_5, val_main_v33, val_main_v34, val_main_v35, val_main_v36, val_main_v37,
    val_main_v38, val_main_v39, val_main_v40, val_main_v41]
  blk_point [iblk, V, idx t]
  all_goals first
    | rfl
    | (simp only [place, ix3]; omega)
    | (simp [place, ix3]; omega)

end Cert.MixIdeal.Out
-- ==== Proof.MixValue.lean ====
/-
  The output projection with its residual and layer norm: both arrays the kernel leaves are the reference's.
-/
module

public import proofs.«01_k».proof.Proof.MixPoint
public import Idealize.ShloMosaic.Lib.Pipeline.ValueKit

set_option maxRecDepth 16384
set_option maxHeartbeats 1000000

@[expose] public section

noncomputable section

open Idealize.ShloMosaic Idealize.ShloMosaic.TcCoe Idealize.SL.Sem
open Idealize.ShloMosaic.Pipeline (Dat)

namespace Cert.MixIdeal.Out

open Cert.MixIdeal Cert.MixIdeal.Gen
open Cert.MixRefIdeal.Read (val_main_v0 val_main_v1 val_main_v2 val_main_v3 val_main_cst val_main_v4 val_main_v5
  val_main_v6 val_main_v7 val_main_v8 val_main_cst_0 val_main_v9 val_main_v10 val_main_cst_1 val_main_v11 val_main_v12
  val_main_v13 val_main_v14 val_main_v15 val_main_cst_2 val_main_v16 val_main_v17 val_main_cst_3 val_main_v18
  val_main_v19 val_main_v20 val_main_v21 val_main_cst_4 val_main_v22 val_main_v23 val_main_v24 val_main_v25 val_main_v26
  val_main_v27 val_main_v28 val_main_v29 val_main_v30 val_main_v31 val_main_v32 val_main_cst_5 val_main_v33 val_main_v34
  val_main_v35 val_main_v36 val_main_v37 val_main_v38 val_main_v39 val_main_v40 val_main_v41)

variable (m : (ℓ : Loc nD τ sig) → Buf (Elt Ideal) ℓ)

/-- A load of a whole block is the block. -/
theorem whole0 (X : Vec Ideal S1x512x512 .bf16) : View.ld X r0_0 = X := View.ld_unit_lit _ X (by decide)
theorem whole1 (X : Vec Ideal S1024x1024 .bf16) : View.ld X r0_1 = X := View.ld_unit_lit _ X (by decide)
theorem whole2 (X : Vec Ideal S1x512x1024 .f32) : View.ld X r0_2 = X := View.ld_unit_lit _ X (by decide)
theorem whole3 (X : Vec Ideal S1x1x1024 .f32) : View.ld X r0_3 = X := View.ld_unit_lit _ X (by decide)
theorem whole4 (X : Vec Ideal S1x1024 .f32) : View.ld X r0_4 = X := View.ld_unit_lit _ X (by decide)

/-- The normalised residual stream after the run. -/
theorem final9 (c : Dev nD) : (dats m 0 c).arrAt 9 (cfgs 0).N
    = val_main_v32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  simp only [k0_pay9, k0_pay10, k0_pay11, k0_pay12, k0_pay13, whole0, whole1, whole2, whole3, whole4]
  exact point9 m c t y

/-- The modulated tokens, features first, after the run. -/
theorem final10 (c : Dev nD) : (dats m 0 c).arrAt 10 (cfgs 0).N
    = val_main_v41 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]; frame_out
  simp only [k0_pay9, k0_pay10, k0_pay11, k0_pay12, k0_pay13, whole0, whole1, whole2, whole3, whole4]
  exact point10 m c t y

end Cert.MixIdeal.Out
-- ==== Proof.CtxRef.lean ====
/-
  The reference of the context tokens' attention: an output entry as one quotient of sums.
-/
module

public import proofs.«01_k».proof.Proof.Gen.CtxRefIdeal.Read
public import Idealize.ShloMosaic.Lib.Pipeline.ValueKit

set_option maxRecDepth 16384
set_option maxHeartbeats 2000000

@[expose] public section

noncomputable section

open Idealize.ShloMosaic Idealize.ShloMosaic.TcCoe Idealize.ShloMosaic.Tactic

namespace Cert.CtxRefIdeal.Plain

open Cert.CtxRefIdeal Cert.CtxRefIdeal.Read

/-- Lane `e` of head `h`. -/
def lane (h : Fin 8) (e : Fin 64) : Fin 512 := ⟨64 * h.val + e.val, by omega⟩

/-- The smallest value a maximum starts from. -/
abbrev lowest : EReal := Ideal.ofBits FTy.f32 0xFF800000#32

section
variable (x0 x1 x2 : FVec Ideal S16x256x512 .bf16)

/-- The score of query `p` against key `n`. -/
def sc (b : Fin 16) (h : Fin 8) (p n : Fin 256) : EReal := ∑ e : Fin 64, x0 (ix3 b p (lane h e)) * x1 (ix3 b n (lane h e))

/-- The weight of key `n`, not yet divided. -/
def wt (b : Fin 16) (h : Fin 8) (p n : Fin 256) : EReal :=
  Ideal.exp (sc x0 x1 b h p n - Finset.fold max lowest (fun n => sc x0 x1 b h p n) Finset.univ)

theorem query (b : Fin 16) (h : Fin 8) (n : Fin 256) (d : Fin 64) : val_main_v4 (F := Ideal) x0 (ix4 b h n d) = x0 (ix3 b n (lane h d)) := by
  rw [val_main_v4_apply, val_main_v3_apply, val_main_v0_apply]
  refine congrArg x0 (funext fun a => Fin.ext ?_)
  match a with
  | ⟨0, _⟩ => dsimp [idx_main_v4, idx_main_v3, ix4, ix3, lane]; omega
  | ⟨1, _⟩ => dsimp [idx_main_v4, idx_main_v3, ix4, ix3, lane]; omega
  | ⟨2, _⟩ => dsimp [idx_main_v4, idx_main_v3, ix4, ix3, lane]; omega

theorem key (b : Fin 16) (h : Fin 8) (n : Fin 256) (d : Fin 64) : val_main_v6 (F := Ideal) x1 (ix4 b h n d) = x1 (ix3 b n (lane h d)) := by
  rw [val_main_v6_apply, val_main_v5_apply, val_main_v1_apply]
  refine congrArg x1 (funext fun a => Fin.ext ?_)
  match a with
  | ⟨0, _⟩ => dsimp [idx_main_v6, idx_main_v5, ix4, ix3, lane]; omega
  | ⟨1, _⟩ => dsimp [idx_main_v6, idx_main_v5, ix4, ix3, lane]; omega
  | ⟨2, _⟩ => dsimp [idx_main_v6, idx_main_v5, ix4, ix3, lane]; omega

theorem value (b : Fin 16) (h : Fin 8) (n : Fin 256) (d : Fin 64) : val_main_v8 (F := Ideal) x2 (ix4 b h n d) = x2 (ix3 b n (lane h d)) := by
  rw [val_main_v8_apply, val_main_v7_apply, val_main_v2_apply]
  refine congrArg x2 (funext fun a => Fin.ext ?_)
  match a with
  | ⟨0, _⟩ => dsimp [idx_main_v8, idx_main_v7, ix4, ix3, lane]; omega
  | ⟨1, _⟩ => dsimp [idx_main_v8, idx_main_v7, ix4, ix3, lane]; omega
  | ⟨2, _⟩ => dsimp [idx_main_v8, idx_main_v7, ix4, ix3, lane]; omega

theorem score (b : Fin 16) (h : Fin 8) (p n : Fin 256) : val_main_v9 (F := Ideal) x0 x1 (ix4 b h p n) = sc x0 x1 b h p n := by
  rw [val_main_v9_apply]
  have l : ∀ e : Fin 64, lidx_main_v9 (ix4 b h p n) e = ix4 b h p e := fun e => by
    funext a; match a with
    | ⟨0, _⟩ => rfl
    | ⟨1, _⟩ => rfl
    | ⟨2, _⟩ => rfl
    | ⟨3, _⟩ => rfl
  have r : ∀ e : Fin 64, ridx_main_v9 (ix4 b h p n) e = ix4 b h n e := fun e => by
    funext a; match a with
    | ⟨0, _⟩ => rfl
    | ⟨1, _⟩ => rfl
    | ⟨2, _⟩ => rfl
    | ⟨3, _⟩ => rfl
  simp only [l, r, query, key]
  rfl

theorem largest (b : Fin 16) (h : Fin 8) (p : Fin 256) :
    val_main_v10 (F := Ideal) x0 x1 (ix3 b h p) = Finset.fold max lowest (fun n => sc x0 x1 b h p n) Finset.univ := by
  have e : val_main_v10 (F := Ideal) x0 x1 (ix3 b h p)
      = Finset.fold max lowest (fun n : Fin 256 => val_main_v9 (F := Ideal) x0 x1 (ix4 b h p n)) Finset.univ := by
    unfold val_main_v10
    generalize val_main_v9 (F := Ideal) x0 x1 = y
    pointwise
    rfl
  rw [e]
  simp only [score]

theorem weight (b : Fin 16) (h : Fin 8) (p n : Fin 256) : val_main_v14 (F := Ideal) x0 x1 (ix4 b h p n) = wt x0 x1 b h p n := by
  rw [val_main_v14_apply, val_main_v13_apply, val_main_v12_apply, val_main_v11_apply]
  have e : idx_main_v11 (idx_main_v12 (ix4 b h p n)) = ix3 b h p := by
    funext a; match a with
    | ⟨0, _⟩ => rfl
    | ⟨1, _⟩ => rfl
    | ⟨2, _⟩ => rfl
  rw [e, largest, score]
  rfl

theorem num (b : Fin 16) (h : Fin 8) (p : Fin 256) (d : Fin 64) :
    val_main_v15 (F := Ideal) x0 x1 x2 (ix4 b h p d) = ∑ n : Fin 256, wt x0 x1 b h p n * x2 (ix3 b n (lane h d)) := by
  rw [val_main_v15_apply]
  have l : ∀ e : Fin 256, lidx_main_v15 (ix4 b h p d) e = ix4 b h p e := fun e => by
    funext a; match a with
    | ⟨0, _⟩ => rfl
    | ⟨1, _⟩ => rfl
    | ⟨2, _⟩ => rfl
    | ⟨3, _⟩ => rfl
  have r : ∀ e : Fin 256, ridx_main_v15 (ix4 b h p d) e = ix4 b h e d := fun e => by
    funext a; match a with
    | ⟨0, _⟩ => rfl
    | ⟨1, _⟩ => rfl
    | ⟨2, _⟩ => rfl
    | ⟨3, _⟩ => rfl
  simp only [l, r, weight, value]

theorem den (b : Fin 16) (h : Fin 8) (p : Fin 256) : val_main_v16 (F := Ideal) x0 x1 (ix3 b h p) = ∑ n : Fin 256, wt x0 x1 b h p n := by
  rw [val_main_v16_apply, val_main_cst_0_apply]
  have l : ∀ e : Fin 256, idx_main_v16 (ix3 b h p) e = ix4 b h p e := fun e => by
    funext a; match a with
    | ⟨0, _⟩ => rfl
    | ⟨1, _⟩ => rfl
    | ⟨2, _⟩ => rfl
    | ⟨3, _⟩ => rfl
  have z : FloatOps.ofBits (F := Ideal) .f32 0x00000000#32 = (0 : EReal) := by
    show Ideal.ofBits .f32 0x00000000#32 = (0 : EReal)
    simp [Ideal.ofBits, Ideal.ieee]
  simp only [l, weight]
  exact (congrArg (· + _) z).trans (zero_add _)

/-- An output entry. -/
theorem out (b : Fin 16) (h : Fin 8) (p : Fin 256) (d : Fin 64) :
    val_main_v22 (F := Ideal) x0 x1 x2 (ix3 b p (lane h d))
      = Ideal.div (∑ n : Fin 256, wt x0 x1 b h p n * x2 (ix3 b n (lane h d))) (∑ n : Fin 256, wt x0 x1 b h p n) := by
  rw [val_main_v22_apply, val_main_v21_apply, val_main_v20_apply]
  have e : idx_main_v20 (idx_main_v21 (ix3 b p (lane h d))) = ix4 b h p d := by
    refine funext fun a => Fin.ext ?_
    match a with
    | ⟨0, _⟩ => dsimp [idx_main_v20, idx_main_v21, ix4, ix3, lane]; omega
    | ⟨1, _⟩ => dsimp [idx_main_v20, idx_main_v21, ix4, ix3, lane]; omega
    | ⟨2, _⟩ => dsimp [idx_main_v20, idx_main_v21, ix4, ix3, lane]; omega
    | ⟨3, _⟩ => dsimp [idx_main_v20, idx_main_v21, ix4, ix3, lane]; omega
  rw [e, val_main_v19_apply, num, val_main_v18_apply, val_main_v17_apply]
  have e' : idx_main_v17 (idx_main_v18 (ix4 b h p d)) = ix3 b h p := by
    funext a; match a with
    | ⟨0, _⟩ => rfl
    | ⟨1, _⟩ => rfl
    | ⟨2, _⟩ => rfl
  rw [e', den]
  rfl

end

end Cert.CtxRefIdeal.Plain
-- ==== Proof.NaSpec.lean ====
/-
  The neighbourhood attention of the latent tokens, one grid point: what each scratch array and the output block hold, as plain formulas over the blocks read.
-/
module

public import proofs.«01_k».proof.Proof.Gen.NaIdeal.Skeleton
public import Idealize.ShloMosaic.Lib.Pipeline.ValueKit

set_option maxRecDepth 16384
set_option maxHeartbeats 1000000

@[expose] public section

noncomputable section

open Idealize.ShloMosaic Idealize.ShloMosaic.TcCoe Idealize.SL.Sem

namespace Cert.NaIdeal.Out

open Cert.NaIdeal Cert.NaIdeal.Gen

/-- The lanes of the pair's head `h`. -/
def mask (h : Fin 2) : IVec S1x128 1 := if h = 0 then k0_pay22 else k0_pay23

/-- The key row that is number `j` of the band that query row `p`'s group reads. -/
def row (p : Fin 2048) (j : Fin 704) : Fin 2048 := ⟨64 * min 21 (4 * (p.val / 256) - 4) + j.val, by omega⟩

/-- Which of the three bias patterns query row `p`'s group takes: first, inner, last. -/
def kindOf (p : Fin 2048) : Fin 3 := if p.val / 256 = 0 then 0 else if p.val / 256 = 7 then 2 else 1

/-- The place of query row `p` in its group. -/
def inGroup (p : Fin 2048) : Fin 256 := ⟨p.val % 256, by omega⟩

/-- The smallest value a maximum starts from. -/
abbrev lowest : EReal := Ideal.ofBits FTy.f32 0xFF800000#32

section
variable (q k v : Vec Ideal S1x2048x128 .bf16) (kc vc : Vec Ideal S1x256x128 .bf16) (b : Vec Ideal S2x3x256x704 .f32)

/-- The score of query `p` against number `j` of its band. -/
def sloc (h : Fin 2) (p : Fin 2048) (j : Fin 704) : EReal :=
  ∑ e : Fin 128, Scalar.select (mask h (ix2 0 e)) (q (ix3 0 p e) * k (ix3 0 (row p j) e)) 0 + b (ix4 h (kindOf p) (inGroup p) j)

/-- The score of query `p` against context token `n`. -/
def sctx (h : Fin 2) (p : Fin 2048) (n : Fin 256) : EReal :=
  ∑ e : Fin 128, Scalar.select (mask h (ix2 0 e)) (q (ix3 0 p e) * kc (ix3 0 n e)) 0

/-- The largest score of query `p`. -/
def top (h : Fin 2) (p : Fin 2048) : EReal :=
  max (Finset.fold max lowest (fun j => sloc q k b h p j) Finset.univ) (Finset.fold max lowest (fun n => sctx q kc h p n) Finset.univ)

/-- The context scores. -/
def G9 : Vec Ideal S2x2048x256 .f32 := fun y => sctx q kc (y 0) (y 1) (y 2)

/-- The context weights, not yet divided. -/
def G10 : Vec Ideal S2x2048x256 .bf16 := fun y => Ideal.exp (sctx q kc (y 0) (y 1) (y 2) - top q k kc b (y 0) (y 1))

/-- The band's share of the output, not yet divided. -/
def G11 : Vec Ideal S2x2048x128 .f32 := fun y =>
  ∑ j : Fin 704, Ideal.exp (sloc q k b (y 0) (y 1) j - top q k kc b (y 0) (y 1)) * v (ix3 0 (row (y 1) j) (y 2))

/-- The sum of the weights. -/
def G12 : Vec Ideal S2x2048x128 .f32 := fun y =>
  ∑ j : Fin 704, Ideal.exp (sloc q k b (y 0) (y 1) j - top q k kc b (y 0) (y 1))
    + ∑ n : Fin 256, Ideal.exp (sctx q kc (y 0) (y 1) n - top q k kc b (y 0) (y 1))

/-- One head's output. -/
def head (h : Fin 2) (p : Fin 2048) (d : Fin 128) : EReal :=
  Ideal.div (G11 q k v kc b (ix3 h p d) + ∑ n : Fin 256, G10 q k kc b (ix3 h p n) * vc (ix3 0 n d)) (G12 q k kc b (ix3 h p d))

/-- The output block. -/
def OUT : Vec Ideal S1x2048x128 .bf16 := fun y =>
  Scalar.select (mask 0 (ix2 0 (y 2))) (head q k v kc vc b 0 (y 1) (y 2)) (head q k v kc vc b 1 (y 1) (y 2))

end

/-! ### Where each load and store of a trip lies -/

theorem off1 : ∀ g, k0_off1 g = ![0, 256 * g.val, 0] := by decide +kernel
theorem off2 : ∀ g, k0_off2 g = ![0, 64 * min 21 (4 * g.val - 4), 0] := by decide +kernel
theorem off3 : ∀ g, k0_off3 g = ![0, if g.val = 0 then 0 else if g.val = 7 then 2 else 1, 0, 0] := by decide +kernel
theorem off4 : ∀ g, k0_off4 g = ![0, 256 * g.val, 0] := by decide +kernel
theorem off5 : ∀ g, k0_off5 g = ![0, 256 * g.val, 0] := by decide +kernel
theorem off6 : ∀ g, k0_off6 g = ![1, if g.val = 0 then 0 else if g.val = 7 then 2 else 1, 0, 0] := by decide +kernel
theorem off7 : ∀ g, k0_off7 g = ![1, 256 * g.val, 0] := by decide +kernel
theorem off8 : ∀ g, k0_off8 g = ![1, 256 * g.val, 0] := by decide +kernel

theorem trips1 : k0_t1_loop.trips = 8 := by decide +kernel
theorem trips2 : k0_t2_loop.trips = 4 := by decide +kernel

/-- Row `r` of trip `g`'s group. -/
def at1 (g : Fin k0_t1_loop.trips) (r : Fin 256) : Fin 2048 :=
  ⟨256 * g.val + r.val, by have := g.isLt; have := trips1; omega⟩

theorem at1_row (g : Fin k0_t1_loop.trips) (r : Fin 256) (j : Fin 704) :
    (row (at1 g r) j).val = 64 * min 21 (4 * g.val - 4) + j.val := by
  have h : (256 * g.val + r.val) / 256 = g.val := by omega
  simp only [row, at1, h]

theorem at1_kind (g : Fin k0_t1_loop.trips) (r : Fin 256) :
    (kindOf (at1 g r)).val = if g.val = 0 then 0 else if g.val = 7 then 2 else 1 := by
  have h : (256 * g.val + r.val) / 256 = g.val := by omega
  simp only [kindOf, at1, h]; split_ifs <;> rfl

theorem at1_inGroup (g : Fin k0_t1_loop.trips) (r : Fin 256) : inGroup (at1 g r) = r :=
  Fin.ext (by simp only [inGroup, at1]; omega)

section
variable (g : Fin k0_t1_loop.trips)

/-- The query rows of a trip. -/
theorem ld1 (q : Vec Ideal S1x2048x128 .bf16) (r : Fin 256) (e : Fin 128) :
    View.ld (Val := Elt Ideal) q (Rect.unit (s := S1x2048x128) (k0_off1 g) S1x256x128.size (k0_off1_inb g)) (ix3 0 r e) = q (ix3 0 (at1 g r) e) := by
  refine View.ld_unit_apply_of _ _ _ _ _ _ fun a => ?_
  have o := congrFun (off1 g) a; fin_cases a <;> simp at o <;> simp [ix3, at1, o]

/-- The key or value rows of a trip. -/
theorem ld2 (k : Vec Ideal S1x2048x128 .bf16) (r : Fin 256) (j : Fin 704) (e : Fin 128) :
    View.ld (Val := Elt Ideal) k (Rect.unit (s := S1x2048x128) (k0_off2 g) S1x704x128.size (k0_off2_inb g)) (ix3 0 j e) = k (ix3 0 (row (at1 g r) j) e) := by
  refine View.ld_unit_apply_of _ _ _ _ _ _ fun a => ?_
  have o := congrFun (off2 g) a; fin_cases a <;> simp at o <;> simp [ix3, at1_row, o]

/-- The bias of a trip, first head. -/
theorem ld3 (b : Vec Ideal S2x3x256x704 .f32) (r : Fin 256) (j : Fin 704) :
    View.ld (Val := Elt Ideal) b (Rect.unit (s := S2x3x256x704) (k0_off3 g) S1x1x256x704.size (k0_off3_inb g)) (ix4 0 0 r j) = b (ix4 0 (kindOf (at1 g r)) (inGroup (at1 g r)) j) := by
  refine View.ld_unit_apply_of _ _ _ _ _ _ fun a => ?_
  have o := congrFun (off3 g) a; rw [at1_inGroup]; fin_cases a <;> simp at o <;> simp [ix4, at1_kind, o]

/-- The bias of a trip, second head. -/
theorem ld6 (b : Vec Ideal S2x3x256x704 .f32) (r : Fin 256) (j : Fin 704) :
    View.ld (Val := Elt Ideal) b (Rect.unit (s := S2x3x256x704) (k0_off6 g) S1x1x256x704.size (k0_off6_inb g)) (ix4 0 0 r j) = b (ix4 1 (kindOf (at1 g r)) (inGroup (at1 g r)) j) := by
  refine View.ld_unit_apply_of _ _ _ _ _ _ fun a => ?_
  have o := congrFun (off6 g) a; rw [at1_inGroup]; fin_cases a <;> simp at o <;> simp [ix4, at1_kind, o]

/-- The context scores of a trip, first head. -/
theorem ld4 (s : Vec Ideal S2x2048x256 .f32) (r : Fin 256) (n : Fin 256) :
    View.ld (Val := Elt Ideal) s (Rect.unit (s := S2x2048x256) (k0_off4 g) S1x256x256.size (k0_off4_inb g)) (ix3 0 r n) = s (ix3 0 (at1 g r) n) := by
  refine View.ld_unit_apply_of _ _ _ _ _ _ fun a => ?_
  have o := congrFun (off4 g) a; fin_cases a <;> simp at o <;> simp [ix3, at1, o]

/-- The context scores of a trip, second head. -/
theorem ld7 (s : Vec Ideal S2x2048x256 .f32) (r : Fin 256) (n : Fin 256) :
    View.ld (Val := Elt Ideal) s (Rect.unit (s := S2x2048x256) (k0_off7 g) S1x256x256.size (k0_off7_inb g)) (ix3 0 r n) = s (ix3 1 (at1 g r) n) := by
  refine View.ld_unit_apply_of _ _ _ _ _ _ fun a => ?_
  have o := congrFun (off7 g) a; fin_cases a <;> simp at o <;> simp [ix3, at1, o]
end

/-! ### What a trip computes, given what it reads -/

section
variable (q k v : Vec Ideal S1x2048x128 .bf16) (kc vc : Vec Ideal S1x256x128 .bf16) (b : Vec Ideal S2x3x256x704 .f32)
  (h : Fin 2) (P : Fin 256 → Fin 2048)

/-- The band scores, first head. -/
theorem scores0 {m : IVec S1x128 1} {q' : Vec Ideal S1x256x128 .bf16} {k' : Vec Ideal S1x704x128 .bf16} {b' : Vec Ideal S1x1x256x704 .f32}
    (hm : m = mask h) (hq : ∀ r e, q' (ix3 0 r e) = q (ix3 0 (P r) e)) (hk : ∀ r j e, k' (ix3 0 j e) = k (ix3 0 (row (P r) j) e))
    (hb : ∀ r j, b' (ix4 0 0 r j) = b (ix4 h (kindOf (P r)) (inGroup (P r)) j)) (r : Fin 256) (j : Fin 704) :
    k0_pay12 (F := Ideal) m q' k' b' (ix2 r j) = sloc q k b h (P r) j := by
  pointwise [k0_pay12, k0_pay9, k0_pay10]
  simp only [hm, hq, hk r, hb]; rfl

/-- The band scores, second head. -/
theorem scores1 {m : IVec S1x128 1} {q' : Vec Ideal S1x256x128 .bf16} {k' : Vec Ideal S1x704x128 .bf16} {b' : Vec Ideal S1x1x256x704 .f32}
    (hm : m = mask h) (hq : ∀ r e, q' (ix3 0 r e) = q (ix3 0 (P r) e)) (hk : ∀ r j e, k' (ix3 0 j e) = k (ix3 0 (row (P r) j) e))
    (hb : ∀ r j, b' (ix4 0 0 r j) = b (ix4 h (kindOf (P r)) (inGroup (P r)) j)) (r : Fin 256) (j : Fin 704) :
    k0_pay21 (F := Ideal) m (k0_pay9 q') (k0_pay10 k') b' (ix2 r j) = sloc q k b h (P r) j := by
  pointwise [k0_pay21, k0_pay9, k0_pay10]
  simp only [hm, hq, hk r, hb]; rfl

variable {s : FVec Ideal S256x704 .f32} {c : Vec Ideal S1x256x256 .f32} {v' : Vec Ideal S1x704x128 .bf16}
  (hs : ∀ r j, s (ix2 r j) = sloc q k b h (P r) j) (hc : ∀ r n, c (ix3 0 r n) = sctx q kc h (P r) n)
  (hv : ∀ r j d, v' (ix3 0 j d) = v (ix3 0 (row (P r) j) d))
include hs hc

/-- The second head's context weights. -/
theorem weights1 (r n : Fin 256) : k0_pay5 (F := Ideal) s c (ix3 0 r n) = G10 q k kc b (ix3 h (P r) n) := by
  pointwise [k0_pay5, k0_pay4, k0_pay2, k0_pay1]
  simp only [hs, hc]; rfl

/-- The second head's sum of weights. -/
theorem total1 (r : Fin 256) (d : Fin 128) : k0_pay6 (F := Ideal) s c (ix3 0 r d) = G12 q k kc b (ix3 h (P r) d) := by
  pointwise [k0_pay6, k0_pay4, k0_pay3, k0_pay2, k0_pay1]
  simp only [hs, hc]; rfl

include hv in
/-- The second head's share of the band. -/
theorem band1 (r : Fin 256) (d : Fin 128) : k0_pay7 (F := Ideal) (k0_pay11 v') s c (ix3 0 r d) = G11 q k v kc b (ix3 h (P r) d) := by
  pointwise [k0_pay7, k0_pay11, k0_pay3, k0_pay2, k0_pay1]
  simp only [hs, hc, hv r]; rfl

variable {t : FVec Ideal S256 .f32} (ht : ∀ r, t (ix1 r) = Finset.fold max lowest (fun j => sloc q k b h (P r) j) Finset.univ)
include ht

/-- The first head's context weights. -/
theorem weights0 (r n : Fin 256) : k0_pay18 (F := Ideal) (k0_pay13 c) t (ix3 0 r n) = G10 q k kc b (ix3 h (P r) n) := by
  pointwise [k0_pay18, k0_pay17, k0_pay15, k0_pay13]
  simp only [hc, ht]; rfl

/-- The first head's sum of weights. -/
theorem total0 (r : Fin 256) (d : Fin 128) : k0_pay19 (F := Ideal) s (k0_pay13 c) t (ix3 0 r d) = G12 q k kc b (ix3 h (P r) d) := by
  pointwise [k0_pay19, k0_pay17, k0_pay16, k0_pay15, k0_pay13]
  simp only [hs, hc, ht]; rfl

include hv in
/-- The first head's share of the band. -/
theorem band0 (r : Fin 256) (d : Fin 128) : k0_pay20 (F := Ideal) (k0_pay11 v') s (k0_pay13 c) t (ix3 0 r d) = G11 q k v kc b (ix3 h (P r) d) := by
  pointwise [k0_pay20, k0_pay11, k0_pay16, k0_pay15, k0_pay13]
  simp only [hs, hc, ht, hv r]; rfl
end

section
variable (q k v : Vec Ideal S1x2048x128 .bf16) (kc vc : Vec Ideal S1x256x128 .bf16) (b : Vec Ideal S2x3x256x704 .f32)
  (h : Fin 2) (P : Fin 256 → Fin 2048)

/-- The first head's largest band score. -/
theorem top0 {m : IVec S1x128 1} {q' : Vec Ideal S1x256x128 .bf16} {k' : Vec Ideal S1x704x128 .bf16} {b' : Vec Ideal S1x1x256x704 .f32}
    (hs : ∀ r j, k0_pay12 (F := Ideal) m q' k' b' (ix2 r j) = sloc q k b h (P r) j) (r : Fin 256) :
    k0_pay14 (F := Ideal) m q' k' b' (ix1 r) = Finset.fold max lowest (fun j => sloc q k b h (P r) j) Finset.univ := by
  pointwise [k0_pay14]
  simp only [hs]

/-- The context scores, both heads. -/
theorem context0 (p : Fin 2048) (n : Fin 256) : k0_pay26 (F := Ideal) kc q (ix3 0 p n) = G9 q kc (ix3 0 p n) := by
  pointwise [k0_pay26, k0_pay24]
  rfl
theorem context1 (p : Fin 2048) (n : Fin 256) : k0_pay27 (F := Ideal) kc q (ix3 0 p n) = G9 q kc (ix3 1 p n) := by
  pointwise [k0_pay27, k0_pay24]
  rfl

/-- What the second loop stores. -/
theorem combine {m : IVec S1x128 1} (hm : m = mask 0) (Q : Fin 512 → Fin 2048)
    {o0 o1 d0 d1 : Vec Ideal S1x512x128 .f32} {w0 w1 : Vec Ideal S1x512x256 .bf16}
    (ho0 : ∀ r d, o0 (ix3 0 r d) = G11 q k v kc b (ix3 0 (Q r) d)) (ho1 : ∀ r d, o1 (ix3 0 r d) = G11 q k v kc b (ix3 1 (Q r) d))
    (hd0 : ∀ r d, d0 (ix3 0 r d) = G12 q k kc b (ix3 0 (Q r) d)) (hd1 : ∀ r d, d1 (ix3 0 r d) = G12 q k kc b (ix3 1 (Q r) d))
    (hw0 : ∀ r n, w0 (ix3 0 r n) = G10 q k kc b (ix3 0 (Q r) n)) (hw1 : ∀ r n, w1 (ix3 0 r n) = G10 q k kc b (ix3 1 (Q r) n))
    (r : Fin 512) (d : Fin 128) :
    k0_pay8 (F := Ideal) m (k0_pay25 vc) o0 w0 d0 o1 w1 d1 (ix3 0 r d) = OUT q k v kc vc b (ix3 0 (Q r) d) := by
  pointwise [k0_pay8, k0_pay25]
  simp only [hm, ho0, ho1, hd0, hd1, hw0, hw1]; rfl
end

end Cert.NaIdeal.Out
-- ==== Proof.NaGather.lean ====
/-
  The two gathers from the bias table of the neighbourhood attention, read at an index: the kernel's, of whole columns by their number, and the reference's, of single
  entries by row and column.
-/
module

public import proofs.«01_k».proof.NaIdeal
public import proofs.«01_k».proof.NaRefIdeal
public import Idealize.ShloMosaic.Lib.Pipeline.ValueKit

@[expose] public section

noncomputable section

open Idealize.ShloMosaic Idealize.ShloMosaic.TcCoe

namespace Cert.NaGather

section Columns
open Cert.NaIdeal

/-- The gather of whole columns. -/
abbrev colDims (wf : GatherDims.WF S8x15x31 S127x1 S8x15x127 [0, 1] [2] [] [2] [] 1 ![8, 15, 1]) : GatherDims S8x15x31 S127x1 S8x15x127 where
  offsetDims := [0, 1]
  collapsedSliceDims := [2]
  operandBatchingDims := []
  startIndicesBatchingDims := []
  startIndexMap := [2]
  indexVectorDim := 1
  sliceSizes := ![8, 15, 1]
  wf := wf

theorem columns_apply {α : Type} (wf : GatherDims.WF S8x15x31 S127x1 S8x15x127 [0, 1] [2] [] [2] [] 1 ![8, 15, 1]) (x : S8x15x31.Idx → α) (idx : IVec S127x1 32)
    (h : Fin 8) (dr : Fin 15) (j : Fin 127) :
    Host.gather (colDims wf) x idx (ix3 h dr j) = x (ix3 h dr ⟨min (idx (ix2 j 0)).toInt.toNat 30, by omega⟩) := by
  unfold Host.gather
  congr 1
  funext a
  refine Fin.ext ?_
  match a with
  | ⟨0, _⟩ =>
    show (colDims wf).start (ix3 h dr j) idx 0 + (colDims wf).batchCoord (ix3 h dr j) 0 + (colDims wf).offCoord (ix3 h dr j) 0 = h.val
    rw [GatherDims.batchCoord_eq_zero _ _ _ List.not_mem_nil]
    unfold GatherDims.start GatherDims.offCoord
    rw [dif_neg (show (0 : Fin 3) ∉ [2] by decide), dif_pos ((GatherDims.mem_sKept _ _).2 ⟨show (0 : Fin 3) ∉ [2] by decide, List.not_mem_nil⟩)]
    simp only [Nat.zero_add]
    rfl
  | ⟨1, _⟩ =>
    show (colDims wf).start (ix3 h dr j) idx 1 + (colDims wf).batchCoord (ix3 h dr j) 1 + (colDims wf).offCoord (ix3 h dr j) 1 = dr.val
    rw [GatherDims.batchCoord_eq_zero _ _ _ List.not_mem_nil]
    unfold GatherDims.start GatherDims.offCoord
    rw [dif_neg (show (1 : Fin 3) ∉ [2] by decide), dif_pos ((GatherDims.mem_sKept _ _).2 ⟨show (1 : Fin 3) ∉ [2] by decide, List.not_mem_nil⟩)]
    simp only [Nat.zero_add]
    rfl
  | ⟨2, _⟩ =>
    have hm : (2 : Fin 3) ∈ [(2 : Fin 3)] := by decide
    show (colDims wf).start (ix3 h dr j) idx 2 + (colDims wf).batchCoord (ix3 h dr j) 2 + (colDims wf).offCoord (ix3 h dr j) 2 = min (idx (ix2 j 0)).toInt.toNat 30
    rw [GatherDims.batchCoord_eq_zero _ _ _ List.not_mem_nil, GatherDims.offCoord_eq_zero _ _ _ (fun h => ((GatherDims.mem_sKept _ _).1 h).1 hm)]
    unfold GatherDims.start
    rw [dif_pos hm]
    simp only [Nat.add_zero]
    have hsi : (colDims wf).siIdx (ix3 h dr j) ⟨List.idxOf (2 : Fin 3) (colDims wf).startIndexMap, List.idxOf_lt_length_iff.2 hm⟩ = ix2 j 0 := by
      funext b; refine Fin.ext ?_
      match b with
      | ⟨0, _⟩ => rfl
      | ⟨1, _⟩ => rfl
    rw [hsi]
    rfl

end Columns

section Entries
open Cert.NaRefIdeal

/-- The gather of single entries, every head's at once. -/
abbrev entryDims (wf : GatherDims.WF S8x15x31 S32x64x32x64x2 S8x32x64x32x64 [0] [1, 2] [] [1, 2] [] 4 ![8, 1, 1]) : GatherDims S8x15x31 S32x64x32x64x2 S8x32x64x32x64 where
  offsetDims := [0]
  collapsedSliceDims := [1, 2]
  operandBatchingDims := []
  startIndicesBatchingDims := []
  startIndexMap := [1, 2]
  indexVectorDim := 4
  sliceSizes := ![8, 1, 1]
  wf := wf

theorem entries_apply {α : Type} (wf : GatherDims.WF S8x15x31 S32x64x32x64x2 S8x32x64x32x64 [0] [1, 2] [] [1, 2] [] 4 ![8, 1, 1]) (x : S8x15x31.Idx → α) (idx : IVec S32x64x32x64x2 32)
    (h : Fin 8) (r : Fin 32) (c : Fin 64) (r' : Fin 32) (c' : Fin 64) :
    Host.gather (entryDims wf) x idx (ix5 h r c r' c')
      = x (ix3 h ⟨min (idx (ix5 r c r' c' 0)).toInt.toNat 14, by omega⟩ ⟨min (idx (ix5 r c r' c' 1)).toInt.toNat 30, by omega⟩) := by
  unfold Host.gather
  congr 1
  funext a
  refine Fin.ext ?_
  match a with
  | ⟨0, _⟩ =>
    show (entryDims wf).start (ix5 h r c r' c') idx 0 + (entryDims wf).batchCoord (ix5 h r c r' c') 0 + (entryDims wf).offCoord (ix5 h r c r' c') 0 = h.val
    rw [GatherDims.batchCoord_eq_zero _ _ _ List.not_mem_nil]
    unfold GatherDims.start GatherDims.offCoord
    rw [dif_neg (show (0 : Fin 3) ∉ [1, 2] by decide), dif_pos ((GatherDims.mem_sKept _ _).2 ⟨show (0 : Fin 3) ∉ [1, 2] by decide, List.not_mem_nil⟩)]
    simp only [Nat.zero_add]
    rfl
  | ⟨1, _⟩ =>
    have hm : (1 : Fin 3) ∈ [(1 : Fin 3), 2] := by decide
    show (entryDims wf).start (ix5 h r c r' c') idx 1 + (entryDims wf).batchCoord (ix5 h r c r' c') 1 + (entryDims wf).offCoord (ix5 h r c r' c') 1 = min (idx (ix5 r c r' c' 0)).toInt.toNat 14
    rw [GatherDims.batchCoord_eq_zero _ _ _ List.not_mem_nil, GatherDims.offCoord_eq_zero _ _ _ (fun h => ((GatherDims.mem_sKept _ _).1 h).1 hm)]
    unfold GatherDims.start
    rw [dif_pos hm]
    simp only [Nat.add_zero]
    have hsi : (entryDims wf).siIdx (ix5 h r c r' c') ⟨List.idxOf (1 : Fin 3) (entryDims wf).startIndexMap, List.idxOf_lt_length_iff.2 hm⟩ = ix5 r c r' c' 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    have hm : (2 : Fin 3) ∈ [(1 : Fin 3), 2] := by decide
    show (entryDims wf).start (ix5 h r c r' c') idx 2 + (entryDims wf).batchCoord (ix5 h r c r' c') 2 + (entryDims wf).offCoord (ix5 h r c r' c') 2 = min (idx (ix5 r c r' c' 1)).toInt.toNat 30
    rw [GatherDims.batchCoord_eq_zero _ _ _ List.not_mem_nil, GatherDims.offCoord_eq_zero _ _ _ (fun h => ((GatherDims.mem_sKept _ _).1 h).1 hm)]
    unfold GatherDims.start
    rw [dif_pos hm]
    simp only [Nat.add_zero]
    have hsi : (entryDims wf).siIdx (ix5 h r c r' c') ⟨List.idxOf (2 : Fin 3) (entryDims wf).startIndexMap, List.idxOf_lt_length_iff.2 hm⟩ = ix5 r c r' c' 1 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl

end Entries

end Cert.NaGather
-- ==== Proof.NaBias.lean ====
/-
  The neighbourhood attention's bias: how the host operations that build it split into stages, and what the first stages leave: the relative columns gathered from the
  bias table, and the column window applied to them.
-/
module

public import proofs.«01_k».proof.Proof.NaSpec
public import proofs.«01_k».proof.Proof.Gen.NaIdeal.Launch
public import proofs.«01_k».proof.Proof.NaGather
public import Idealize.ShloMosaic.Lib.StableHlo.ReadAt

set_option maxRecDepth 16384
set_option maxHeartbeats 2000000

@[expose] public section

noncomputable section

open Idealize.ShloMosaic Idealize.ShloMosaic.TcCoe Idealize.ShloMosaic.Tactic Idealize.SL.Sem

namespace Cert.NaIdeal.Out

open Cert.NaIdeal Cert.NaIdeal.Gen

/-- Operations in a row: the second list starts from what the first leaves. -/
theorem after_split (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => exact ih _

/-- The first ten host operations: the relative columns gathered from the bias table. -/
def gatherOps : List (HloOp τ sig (Elt Ideal)) := hostOps0.take 10
/-- The sixty-four windows of the gathered columns, one per query column. -/
def colOps : List (HloOp τ sig (Elt Ideal)) := (hostOps0.drop 10).take 128
/-- The windows put together in four parts. -/
def catOps : List (HloOp τ sig (Elt Ideal)) := (hostOps0.drop 138).take 4
/-- The four parts put together. -/
def joinOps : List (HloOp τ sig (Elt Ideal)) := hostOps0.drop 142
/-- The column window applied, the query column put first. -/
def maskOps : List (HloOp τ sig (Elt Ideal)) := hostOps0_1 ++ hostOps0_2.take 1
/-- The twelve slabs, each padded to eleven rows. -/
def slabOps : List (HloOp τ sig (Elt Ideal)) := List.flatten [hostOps0_2.drop 1, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26.take 12]
/-- The slabs stacked. -/
def stackOps : List (HloOp τ sig (Elt Ideal)) := hostOps0_26.drop 12

theorem first_split : hostOps0 = gatherOps ++ (colOps ++ (catOps ++ joinOps)) := by
  simp only [gatherOps, colOps, catOps, joinOps, hostOps0, List.take_succ_cons, List.take_zero, List.drop_succ_cons, List.drop_zero, List.cons_append, List.nil_append]

theorem all_split : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26] = hostOps0 ++ (maskOps ++ (slabOps ++ stackOps)) := by
  simp only [maskOps, slabOps, stackOps, List.flatten_cons, List.flatten_nil, hostOps0_2, hostOps0_26, List.take_succ_cons, List.take_zero, List.drop_succ_cons, List.drop_zero, List.append_assoc, List.cons_append, List.nil_append, List.append_nil]

/-- The table of relative columns: the clamp of `x - 63` to fifteen either way, counted from zero. -/
theorem columns : ∀ x : Fin 127, min (lit0 x).toInt.toNat 30 = min 30 (x.val - 48) := by decide +kernel

/-- The table of the column window: sixteen columns from the clamped start. -/
theorem window : ∀ q c : Fin 64, lit1 (S64x64.rowMajor (ix2 q c)) = (if min 48 (q.val - 8) ≤ c.val ∧ c.val < min 48 (q.val - 8) + 16 then 1#1 else 0#1) := by decide +kernel

theorem v5_read (W : Valuation τ sig (Elt Ideal)) (h : Fin 8) (dr : Fin 15) (x : Fin 127) :
    StableHlo.after gatherOps W (Proc.devRef .tc main_v5) (ix3 h dr x) = W (Proc.devRef .tc main_arg5) (ix3 h dr ⟨min 30 (x.val - 48), by omega⟩) := by
  unfold gatherOps
  simp only [hostOps0, List.take_succ_cons, List.take_zero]
  after_reads_at
  refine (Cert.NaGather.columns_apply gather_S8x15x31_S127x1_S8x15x127_01_2_n_n_2_1_8151_wf _ _ h dr x).trans (congrArg (fun z => W (Proc.devRef .tc main_arg5) (ix3 h dr z)) (Fin.ext ?_))
  refine Eq.trans ?_ (columns x)
  have e : S127.rowMajor (ix1 x) = x := Fin.ext (Shape.rowMajor_val_one _)
  show min (_ : BitVec 32).toInt.toNat 30 = _
  pointwise
  rw [e]

theorem mask_read (W : Valuation τ sig (Elt Ideal)) (h : Fin 8) (dr : Fin 15) (q : Fin 64) (c : Fin 64) :
    StableHlo.after maskOps W (Proc.devRef .tc main_v140) (ix4 h q dr c)
      = Scalar.select (W (Proc.devRef .tc main_v0) (ix4 0 0 q c)) (W (Proc.devRef .tc main_v138) (ix4 h dr q c)) (W (Proc.devRef .tc main_cst) ix0) := by
  unfold maskOps
  simp only [hostOps0_1, hostOps0_2, List.take_succ_cons, List.take_zero, List.cons_append, List.nil_append]
  after_reads_at
  rfl

theorem v0_read (W : Valuation τ sig (Elt Ideal)) (q : Fin 64) (c : Fin 64) :
    StableHlo.after hostOps0 W (Proc.devRef .tc main_v0) (ix4 0 0 q c) = lit1 (S64x64.rowMajor (ix2 q c)) := by
  unfold hostOps0
  after_reads_at

theorem cst_read (W : Valuation τ sig (Elt Ideal)) : StableHlo.after hostOps0 W (Proc.devRef .tc main_cst) ix0 = lowest := by
  unfold hostOps0
  after_reads_at
  try rfl

end Cert.NaIdeal.Out
-- ==== Proof.NaSlabs.lean ====
/-
  The neighbourhood attention's bias: the twelve slabs, one per pattern and query row, and their stack.
-/
module

public import proofs.«01_k».proof.Proof.NaBias

set_option maxRecDepth 16384
set_option maxHeartbeats 2000000

@[expose] public section

noncomputable section

open Idealize.ShloMosaic Idealize.ShloMosaic.TcCoe Idealize.ShloMosaic.Tactic Idealize.SL.Sem

namespace Cert.NaIdeal.Out

open Cert.NaIdeal Cert.NaIdeal.Gen

/-- A slab's entry: row `r` of the band is relative row `first + r - lo` inside the window, and masked outside. -/
def slabAt (A : S8x64x15x64.Idx → EReal) (lo first : ℕ) (h : Fin 8) (q : Fin 64) (r : Fin 11) (c : Fin 64) : EReal :=
  if lo ≤ r.val ∧ r.val < lo + 8 then A (ix4 h q ⟨min 14 (first + r.val - lo), by omega⟩ c) else lowest

theorem slab0 (W : Valuation τ sig (Elt Ideal)) (h : Fin 8) (q : Fin 64) (r : Fin 11) (c : Fin 64) :
    StableHlo.after slabOps W (Proc.devRef .tc main_v165) (ix5 h 0 q r c) = slabAt (W (Proc.devRef .tc main_v140)) 0 7 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab1 (W : Valuation τ sig (Elt Ideal)) (h : Fin 8) (q : Fin 64) (r : Fin 11) (c : Fin 64) :
    StableHlo.after slabOps W (Proc.devRef .tc main_v166) (ix5 h 0 q r c) = slabAt (W (Proc.devRef .tc main_v140)) 0 6 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab2 (W : Valuation τ sig (Elt Ideal)) (h : Fin 8) (q : Fin 64) (r : Fin 11) (c : Fin 64) :
    StableHlo.after slabOps W (Proc.devRef .tc main_v167) (ix5 h 0 q r c) = slabAt (W (Proc.devRef .tc main_v140)) 0 5 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab3 (W : Valuation τ sig (Elt Ideal)) (h : Fin 8) (q : Fin 64) (r : Fin 11) (c : Fin 64) :
    StableHlo.after slabOps W (Proc.devRef .tc main_v168) (ix5 h 0 q r c) = slabAt (W (Proc.devRef .tc main_v140)) 0 4 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab4 (W : Valuation τ sig (Elt Ideal)) (h : Fin 8) (q : Fin 64) (r : Fin 11) (c : Fin 64) :
    StableHlo.after slabOps W (Proc.devRef .tc main_v169) (ix5 h 0 q r c) = slabAt (W (Proc.devRef .tc main_v140)) 0 3 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab5 (W : Valuation τ sig (Elt Ideal)) (h : Fin 8) (q : Fin 64) (r : Fin 11) (c : Fin 64) :
    StableHlo.after slabOps W (Proc.devRef .tc main_v170) (ix5 h 0 q r c) = slabAt (W (Proc.devRef .tc main_v140)) 1 3 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab6 (W : Valuation τ sig (Elt Ideal)) (h : Fin 8) (q : Fin 64) (r : Fin 11) (c : Fin 64) :
    StableHlo.after slabOps W (Proc.devRef .tc main_v171) (ix5 h 0 q r c) = slabAt (W (Proc.devRef .tc main_v140)) 2 3 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab7 (W : Valuation τ sig (Elt Ideal)) (h : Fin 8) (q : Fin 64) (r : Fin 11) (c : Fin 64) :
    StableHlo.after slabOps W (Proc.devRef .tc main_v172) (ix5 h 0 q r c) = slabAt (W (Proc.devRef .tc main_v140)) 3 3 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab8 (W : Valuation τ sig (Elt Ideal)) (h : Fin 8) (q : Fin 64) (r : Fin 11) (c : Fin 64) :
    StableHlo.after slabOps W (Proc.devRef .tc main_v173) (ix5 h 0 q r c) = slabAt (W (Proc.devRef .tc main_v140)) 3 3 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab9 (W : Valuation τ sig (Elt Ideal)) (h : Fin 8) (q : Fin 64) (r : Fin 11) (c : Fin 64) :
    StableHlo.after slabOps W (Proc.devRef .tc main_v174) (ix5 h 0 q r c) = slabAt (W (Proc.devRef .tc main_v140)) 3 2 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab10 (W : Valuation τ sig (Elt Ideal)) (h : Fin 8) (q : Fin 64) (r : Fin 11) (c : Fin 64) :
    StableHlo.after slabOps W (Proc.devRef .tc main_v175) (ix5 h 0 q r c) = slabAt (W (Proc.devRef .tc main_v140)) 3 1 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem slab11 (W : Valuation τ sig (Elt Ideal)) (h : Fin 8) (q : Fin 64) (r : Fin 11) (c : Fin 64) :
    StableHlo.after slabOps W (Proc.devRef .tc main_v176) (ix5 h 0 q r c) = slabAt (W (Proc.devRef .tc main_v140)) 3 0 h q r c := by
  unfold slabOps
  simp only [hostOps0_26, List.flatten_cons, List.flatten_nil, List.drop_succ_cons, List.drop_zero, List.take_succ_cons, List.take_zero, List.cons_append, List.nil_append]
  after_reads_at
  unfold slabAt
  split_ifs <;> first | omega | rfl | (congr 2; exact Fin.ext (by simp only []; omega))

theorem stack1 (W : Valuation τ sig (Elt Ideal)) (h : Fin 8) (k : Fin 12) (q : Fin 64) (r : Fin 11) (c : Fin 64) (f : ℕ → EReal)
    (h0 : W (Proc.devRef .tc main_v165) (ix5 h 0 q r c) = f 0)
    (h1 : W (Proc.devRef .tc main_v166) (ix5 h 0 q r c) = f 1)
    (h2 : W (Proc.devRef .tc main_v167) (ix5 h 0 q r c) = f 2)
    (h3 : W (Proc.devRef .tc main_v168) (ix5 h 0 q r c) = f 3)
    (h4 : W (Proc.devRef .tc main_v169) (ix5 h 0 q r c) = f 4)
    (h5 : W (Proc.devRef .tc main_v170) (ix5 h 0 q r c) = f 5)
    (h6 : W (Proc.devRef .tc main_v171) (ix5 h 0 q r c) = f 6)
    (h7 : W (Proc.devRef .tc main_v172) (ix5 h 0 q r c) = f 7)
    (h8 : W (Proc.devRef .tc main_v173) (ix5 h 0 q r c) = f 8)
    (h9 : W (Proc.devRef .tc main_v174) (ix5 h 0 q r c) = f 9)
    (h10 : W (Proc.devRef .tc main_v175) (ix5 h 0 q r c) = f 10)
    (h11 : W (Proc.devRef .tc main_v176) (ix5 h 0 q r c) = f 11)
    : StableHlo.after (stackOps.take 1) W (Proc.devRef .tc main_v177) (ix5 h k q r c) = f k.val := by
  unfold stackOps
  simp only [hostOps0_26, List.drop_succ_cons, List.drop_zero, List.take_succ_cons, List.take_zero]
  after_reads_simp
  concat_tiles i e
  all_goals
    have e' : k.val = _ := e
    have hi : i = ix5 h 0 q r c := by
      funext a; refine Fin.ext ?_
      match a with
      | ⟨0, _⟩ => exact e0
      | ⟨1, _⟩ => exact e1
      | ⟨2, _⟩ => exact e2
      | ⟨3, _⟩ => exact e3
      | ⟨4, _⟩ => exact e4
    subst hi
    rw [e']
    assumption

theorem stack2 (W : Valuation τ sig (Elt Ideal)) (h : Fin 8) (kd : Fin 3) (p : Fin 256) (j : Fin 704) :
    StableHlo.after (stackOps.drop 1) W (Proc.devRef .tc main_v178) (ix4 h kd p j)
      = W (Proc.devRef .tc main_v177) (ix5 h ⟨kd.val * 4 + p.val / 64, by omega⟩ ⟨p.val % 64, by omega⟩ ⟨j.val / 64, by omega⟩ ⟨j.val % 64, by omega⟩) := by
  unfold stackOps
  simp only [hostOps0_26, List.drop_succ_cons, List.drop_zero]
  after_reads_at
  try rfl

end Cert.NaIdeal.Out
-- ==== Proof.NaCols.lean ====
/-
  The neighbourhood attention's bias: the sixty-four windows of the gathered columns, put together.
-/
module

public import proofs.«01_k».proof.Proof.NaBias

set_option maxRecDepth 16384
set_option maxHeartbeats 2000000

@[expose] public section

noncomputable section

open Idealize.ShloMosaic Idealize.ShloMosaic.TcCoe Idealize.ShloMosaic.Tactic Idealize.SL.Sem

namespace Cert.NaIdeal.Out

open Cert.NaIdeal Cert.NaIdeal.Gen

theorem join_read (W : Valuation τ sig (Elt Ideal)) (h : Fin 8) (dr : Fin 15) (q : Fin 64) (c : Fin 64) (f : ℕ → EReal)
    (h0 : ∀ z : Fin 16, W (Proc.devRef .tc main_v134) (ix4 h dr z c) = f (0 + z.val))
    (h1 : ∀ z : Fin 16, W (Proc.devRef .tc main_v135) (ix4 h dr z c) = f (16 + z.val))
    (h2 : ∀ z : Fin 16, W (Proc.devRef .tc main_v136) (ix4 h dr z c) = f (32 + z.val))
    (h3 : ∀ z : Fin 16, W (Proc.devRef .tc main_v137) (ix4 h dr z c) = f (48 + z.val))
    : StableHlo.after joinOps W (Proc.devRef .tc main_v138) (ix4 h dr q c) = f q.val := by
  unfold joinOps
  simp only [hostOps0, List.drop_succ_cons, List.drop_zero]
  after_reads_at
  by_cases g1 : q.val < 16
  · rw [dif_pos g1, h0]; congr 1; simp only []; omega
  rw [dif_neg g1]
  by_cases g2 : q.val - 16 < 16
  · rw [dif_pos g2, h1]; congr 1; simp only []; omega
  rw [dif_neg g2]
  by_cases g3 : q.val - 16 - 16 < 16
  · rw [dif_pos g3, h2]; congr 1; simp only []; omega
  rw [dif_neg g3, h3]; congr 1; simp only []; omega

theorem cat0 (W : Valuation τ sig (Elt Ideal)) (h : Fin 8) (dr : Fin 15) (q : Fin 16) (c : Fin 64) :
    StableHlo.after catOps (StableHlo.after colOps W) (Proc.devRef .tc main_v134) (ix4 h dr q c) = W (Proc.devRef .tc main_v5) (ix3 h dr ⟨63 - (0 + q.val) + c.val, by omega⟩) := by
  generalize hW : StableHlo.after colOps W = W'
  unfold catOps
  simp only [hostOps0, List.drop_succ_cons, List.drop_zero, List.take_succ_cons, List.take_zero]
  after_reads_simp
  concat_tiles i k
  all_goals
    have e : i = ix4 h dr 0 c := by
      funext a; refine Fin.ext ?_
      match a with
      | ⟨0, _⟩ => exact k0
      | ⟨1, _⟩ => exact k1
      | ⟨2, _⟩ => exact k2
      | ⟨3, _⟩ => exact k3
    subst e
    subst hW
    have k' : q.val = _ := k
    clear k k0 k1 k2 k3
    unfold colOps
    simp only [hostOps0, List.drop_succ_cons, List.drop_zero, List.take_succ_cons, List.take_zero]
    dsimp only [Matrix.cons_val]
    after_reads_at
    congr 2
    exact Fin.ext (by simp only [k'] <;> omega)

theorem cat1 (W : Valuation τ sig (Elt Ideal)) (h : Fin 8) (dr : Fin 15) (q : Fin 16) (c : Fin 64) :
    StableHlo.after catOps (StableHlo.after colOps W) (Proc.devRef .tc main_v135) (ix4 h dr q c) = W (Proc.devRef .tc main_v5) (ix3 h dr ⟨63 - (16 + q.val) + c.val, by omega⟩) := by
  generalize hW : StableHlo.after colOps W = W'
  unfold catOps
  simp only [hostOps0, List.drop_succ_cons, List.drop_zero, List.take_succ_cons, List.take_zero]
  after_reads_simp
  concat_tiles i k
  all_goals
    have e : i = ix4 h dr 0 c := by
      funext a; refine Fin.ext ?_
      match a with
      | ⟨0, _⟩ => exact k0
      | ⟨1, _⟩ => exact k1
      | ⟨2, _⟩ => exact k2
      | ⟨3, _⟩ => exact k3
    subst e
    subst hW
    have k' : q.val = _ := k
    clear k k0 k1 k2 k3
    unfold colOps
    simp only [hostOps0, List.drop_succ_cons, List.drop_zero, List.take_succ_cons, List.take_zero]
    dsimp only [Matrix.cons_val]
    after_reads_at
    congr 2
    exact Fin.ext (by simp only [k'] <;> omega)

theorem cat2 (W : Valuation τ sig (Elt Ideal)) (h : Fin 8) (dr : Fin 15) (q : Fin 16) (c : Fin 64) :
    StableHlo.after catOps (StableHlo.after colOps W) (Proc.devRef .tc main_v136) (ix4 h dr q c) = W (Proc.devRef .tc main_v5) (ix3 h dr ⟨63 - (32 + q.val) + c.val, by omega⟩) := by
  generalize hW : StableHlo.after colOps W = W'
  unfold catOps
  simp only [hostOps0, List.drop_succ_cons, List.drop_zero, List.take_succ_cons, List.take_zero]
  after_reads_simp
  concat_tiles i k
  all_goals
    have e : i = ix4 h dr 0 c := by
      funext a; refine Fin.ext ?_
      match a with
      | ⟨0, _⟩ => exact k0
      | ⟨1, _⟩ => exact k1
      | ⟨2, _⟩ => exact k2
      | ⟨3, _⟩ => exact k3
    subst e
    subst hW
    have k' : q.val = _ := k
    clear k k0 k1 k2 k3
    unfold colOps
    simp only [hostOps0, List.drop_succ_cons, List.drop_zero, List.take_succ_cons, List.take_zero]
    dsimp only [Matrix.cons_val]
    after_reads_at
    congr 2
    exact Fin.ext (by simp only [k'] <;> omega)

theorem cat3 (W : Valuation τ sig (Elt Ideal)) (h : Fin 8) (dr : Fin 15) (q : Fin 16) (c : Fin 64) :
    StableHlo.after catOps (StableHlo.after colOps W) (Proc.devRef .tc main_v137) (ix4 h dr q c) = W (Proc.devRef .tc main_v5) (ix3 h dr ⟨63 - (48 + q.val) + c.val, by omega⟩) := by
  generalize hW : StableHlo.after colOps W = W'
  unfold catOps
  simp only [hostOps0, List.drop_succ_cons, List.drop_zero, List.take_succ_cons, List.take_zero]
  after_reads_simp
  concat_tiles i k
  all_goals
    have e : i = ix4 h dr 0 c := by
      funext a; refine Fin.ext ?_
      match a with
      | ⟨0, _⟩ => exact k0
      | ⟨1, _⟩ => exact k1
      | ⟨2, _⟩ => exact k2
      | ⟨3, _⟩ => exact k3
    subst e
    subst hW
    have k' : q.val = _ := k
    clear k k0 k1 k2 k3
    unfold colOps
    simp only [hostOps0, List.drop_succ_cons, List.drop_zero, List.take_succ_cons, List.take_zero]
    dsimp only [Matrix.cons_val]
    after_reads_at
    congr 2
    exact Fin.ext (by simp only [k'] <;> omega)

end Cert.NaIdeal.Out
-- ==== Proof.NaBiasAll.lean ====
/-
  The neighbourhood attention's bias as the launch finds it: for each of the three patterns, query and band entry, the table's entry inside the window and −∞ outside.
-/
module

public import proofs.«01_k».proof.Proof.NaSlabs
public import proofs.«01_k».proof.Proof.NaCols
public import proofs.«01_k».proof.Proof.Gen.NaIdeal.Frame.Runs

set_option maxRecDepth 16384
set_option maxHeartbeats 2000000

@[expose] public section

noncomputable section

open Idealize.ShloMosaic Idealize.ShloMosaic.TcCoe Idealize.ShloMosaic.Tactic Idealize.SL.Sem

namespace Cert.NaIdeal.Out

open Cert.NaIdeal Cert.NaIdeal.Gen

/-- The first row of the window inside the band, by pattern and query row. -/
def winRow (kd rq : ℕ) : ℕ := if kd = 0 then 0 else if kd = 1 then rq else 3

/-- The query's own row counted from the start of the band, by pattern and query row. -/
def ownRow (kd rq : ℕ) : ℕ := if kd = 0 then rq else if kd = 1 then 4 + rq else 7 + rq

/-- The bias of band entry `j` for query `p` of a group of pattern `kd`. -/
def biasAt (T : S8x15x31.Idx → EReal) (h : Fin 8) (kd : Fin 3) (p : Fin 256) (j : Fin 704) : EReal :=
  if (winRow kd.val (p.val / 64) ≤ j.val / 64 ∧ j.val / 64 < winRow kd.val (p.val / 64) + 8)
      ∧ (min 48 (p.val % 64 - 8) ≤ j.val % 64 ∧ j.val % 64 < min 48 (p.val % 64 - 8) + 16) then
    T (ix3 h ⟨min 14 (j.val / 64 + 7 - ownRow kd.val (p.val / 64)), by omega⟩ ⟨min 30 (j.val % 64 + 15 - p.val % 64), by omega⟩)
  else lowest

section
variable (W : Valuation τ sig (Elt Ideal))

/-- The columns of every query column, before the window is applied. -/
theorem v138_read (h : Fin 8) (dr : Fin 15) (q c : Fin 64) :
    StableHlo.after hostOps0 W (Proc.devRef .tc main_v138) (ix4 h dr q c) = W (Proc.devRef .tc main_arg5) (ix3 h dr ⟨min 30 (c.val + 15 - q.val), by omega⟩) := by
  rw [first_split, after_split, after_split, after_split]
  have key : ∀ n (hn : n < 64), StableHlo.after gatherOps W (Proc.devRef .tc main_v5) (ix3 h dr ⟨63 - n + c.val, by omega⟩)
      = (fun n => W (Proc.devRef .tc main_arg5) (ix3 h dr ⟨min 30 (c.val + 15 - n), by omega⟩)) n := fun n hn => by
    rw [v5_read]; congr 2; exact Fin.ext (by simp only []; omega)
  exact join_read _ h dr q c (fun n => W (Proc.devRef .tc main_arg5) (ix3 h dr ⟨min 30 (c.val + 15 - n), by omega⟩))
    (fun z => (cat0 _ h dr z c).trans (key _ (by omega))) (fun z => (cat1 _ h dr z c).trans (key _ (by omega)))
    (fun z => (cat2 _ h dr z c).trans (key _ (by omega))) (fun z => (cat3 _ h dr z c).trans (key _ (by omega)))

/-- The columns, the window applied. -/
theorem v140_read (h : Fin 8) (q : Fin 64) (dr : Fin 15) (c : Fin 64) :
    StableHlo.after maskOps (StableHlo.after hostOps0 W) (Proc.devRef .tc main_v140) (ix4 h q dr c)
      = if min 48 (q.val - 8) ≤ c.val ∧ c.val < min 48 (q.val - 8) + 16 then W (Proc.devRef .tc main_arg5) (ix3 h dr ⟨min 30 (c.val + 15 - q.val), by omega⟩) else lowest := by
  rw [mask_read, v0_read, cst_read, v138_read, window]
  split_ifs <;> rfl

/-- The first rows and first relative rows of the twelve slabs. -/
def slabLo (k : ℕ) : ℕ := [0, 0, 0, 0, 0, 1, 2, 3, 3, 3, 3, 3].getD k 0
def slabFirst (k : ℕ) : ℕ := [7, 6, 5, 4, 3, 3, 3, 3, 3, 2, 1, 0].getD k 0

theorem stack_split : stackOps = stackOps.take 1 ++ stackOps.drop 1 := (List.take_append_drop 1 _).symm

theorem tail_read (h : Fin 8) (kd : Fin 3) (p : Fin 256) (j : Fin 704) :
    StableHlo.after stackOps (StableHlo.after slabOps W) (Proc.devRef .tc main_v178) (ix4 h kd p j)
      = slabAt (W (Proc.devRef .tc main_v140)) (slabLo (kd.val * 4 + p.val / 64)) (slabFirst (kd.val * 4 + p.val / 64)) h ⟨p.val % 64, by omega⟩ ⟨j.val / 64, by omega⟩ ⟨j.val % 64, by omega⟩ := by
  rw [stack_split, after_split, stack2]
  exact stack1 _ h ⟨kd.val * 4 + p.val / 64, by omega⟩ _ _ _ (fun k => slabAt (W (Proc.devRef .tc main_v140)) (slabLo k) (slabFirst k) h ⟨p.val % 64, by omega⟩ ⟨j.val / 64, by omega⟩ ⟨j.val % 64, by omega⟩)
    (slab0 _ _ _ _ _) (slab1 _ _ _ _ _) (slab2 _ _ _ _ _) (slab3 _ _ _ _ _) (slab4 _ _ _ _ _) (slab5 _ _ _ _ _) (slab6 _ _ _ _ _) (slab7 _ _ _ _ _) (slab8 _ _ _ _ _) (slab9 _ _ _ _ _) (slab10 _ _ _ _ _) (slab11 _ _ _ _ _)

theorem bias_after (h : Fin 8) (kd : Fin 3) (p : Fin 256) (j : Fin 704) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) W (Proc.devRef .tc main_v178) (ix4 h kd p j)
      = biasAt (W (Proc.devRef .tc main_arg5)) h kd p j := by
  rw [all_split, after_split, after_split, after_split, tail_read]
  unfold slabAt biasAt
  rw [v140_read]
  dsimp only
  have hp : p.val / 64 < 4 := by omega
  have lo : slabLo (kd.val * 4 + p.val / 64) = winRow kd.val (p.val / 64) := by
    generalize p.val / 64 = rq at hp ⊢
    interval_cases rq <;> fin_cases kd <;> rfl
  have first : winRow kd.val (p.val / 64) ≤ j.val / 64 → slabFirst (kd.val * 4 + p.val / 64) + j.val / 64 - winRow kd.val (p.val / 64) = j.val / 64 + 7 - ownRow kd.val (p.val / 64) := by
    generalize p.val / 64 = rq at hp ⊢
    interval_cases rq <;> fin_cases kd <;> simp [slabFirst, winRow, ownRow] <;> omega
  rw [lo]
  by_cases g : winRow kd.val (p.val / 64) ≤ j.val / 64 ∧ j.val / 64 < winRow kd.val (p.val / 64) + 8
  · by_cases g' : min 48 (p.val % 64 - 8) ≤ j.val % 64 ∧ j.val % 64 < min 48 (p.val % 64 - 8) + 16
    · rw [if_pos g, if_pos g', if_pos ⟨g, g'⟩]; congr 2; exact Fin.ext (by simp only [first g.1])
    · rw [if_pos g, if_neg g', if_neg (fun x => g' x.2)]
  · rw [if_neg g, if_neg (fun x => g x.1)]

end

/-- The bias array that the launch finds. -/
theorem bias_read (m : (ℓ : Loc nD τ sig) → Buf (Elt Ideal) ℓ) (c : Dev nD) (h : Fin 8) (kd : Fin 3) (p : Fin 256) (j : Fin 704) :
    V m c main_v178 (ix4 h kd p j) = biasAt (m (c, Proc.devRef .tc main_arg5)) h kd p j :=
  bias_after (fun b => m (c, b)) h kd p j

end Cert.NaIdeal.Out
-- ==== Proof.NaRefRead.lean ====
/-
  The neighbourhood attention's reference, read at an index: the scores of a query, their largest, and the output entry as one quotient of sums.
-/
module

public import proofs.«01_k».proof.Proof.NaGather
public import proofs.«01_k».proof.Proof.Gen.NaRefIdeal.Read
public import Idealize.ShloMosaic.Lib.Pipeline.ValueKit

set_option maxRecDepth 16384
set_option maxHeartbeats 2000000

@[expose] public section

noncomputable section

open Idealize.ShloMosaic Idealize.ShloMosaic.TcCoe Idealize.ShloMosaic.Tactic

namespace Cert.NaRefIdeal.Plain

open Cert.NaRefIdeal Cert.NaRefIdeal.Read

/-- The token at grid row `r`, column `c`. -/
def tok (r : Fin 32) (c : Fin 64) : Fin 2048 := ⟨64 * r.val + c.val, by omega⟩

/-- Lane `e` of head `h`. -/
def lane (h : Fin 8) (e : Fin 64) : Fin 512 := ⟨64 * h.val + e.val, by omega⟩

/-! ### The arrays split into heads -/

theorem query (x0 : FVec Ideal S16x2048x512 .bf16) (b : Fin 16) (h : Fin 8) (r : Fin 32) (c : Fin 64) (e : Fin 64) :
    val_main_v6 (F := Ideal) x0 (ix5 b h r c e) = x0 (ix3 b (tok r c) (lane h e)) := by
  rw [val_main_v6_apply, val_main_v5_apply, val_main_v0_apply]
  refine congrArg x0 (funext fun a => Fin.ext ?_)
  match a with
  | ⟨0, _⟩ => dsimp [idx_main_v6, idx_main_v5, ix5, ix3, tok, lane]; omega
  | ⟨1, _⟩ => dsimp [idx_main_v6, idx_main_v5, ix5, ix3, tok, lane]; omega
  | ⟨2, _⟩ => dsimp [idx_main_v6, idx_main_v5, ix5, ix3, tok, lane]; omega

theorem key (x1 : FVec Ideal S16x2048x512 .bf16) (b : Fin 16) (h : Fin 8) (r : Fin 32) (c : Fin 64) (e : Fin 64) :
    val_main_v8 (F := Ideal) x1 (ix5 b h r c e) = x1 (ix3 b (tok r c) (lane h e)) := by
  rw [val_main_v8_apply, val_main_v7_apply, val_main_v1_apply]
  refine congrArg x1 (funext fun a => Fin.ext ?_)
  match a with
  | ⟨0, _⟩ => dsimp [idx_main_v8, idx_main_v7, ix5, ix3, tok, lane]; omega
  | ⟨1, _⟩ => dsimp [idx_main_v8, idx_main_v7, ix5, ix3, tok, lane]; omega
  | ⟨2, _⟩ => dsimp [idx_main_v8, idx_main_v7, ix5, ix3, tok, lane]; omega

theorem splitValue (x2 : FVec Ideal S16x2048x512 .bf16) (b : Fin 16) (h : Fin 8) (r : Fin 32) (c : Fin 64) (e : Fin 64) :
    val_main_v10 (F := Ideal) x2 (ix5 b h r c e) = x2 (ix3 b (tok r c) (lane h e)) := by
  rw [val_main_v10_apply, val_main_v9_apply, val_main_v2_apply]
  refine congrArg x2 (funext fun a => Fin.ext ?_)
  match a with
  | ⟨0, _⟩ => dsimp [idx_main_v10, idx_main_v9, ix5, ix3, tok, lane]; omega
  | ⟨1, _⟩ => dsimp [idx_main_v10, idx_main_v9, ix5, ix3, tok, lane]; omega
  | ⟨2, _⟩ => dsimp [idx_main_v10, idx_main_v9, ix5, ix3, tok, lane]; omega

theorem value (x2 : FVec Ideal S16x2048x512 .bf16) (b : Fin 16) (h : Fin 8) (k : Fin 2048) (d : Fin 64) :
    val_main_v106 (F := Ideal) x2 (ix4 b h k d) = x2 (ix3 b k (lane h d)) := by
  rw [val_main_v106_apply]
  have e : idx_main_v106 (ix4 b h k d) = ix5 b h ⟨k.val / 64, by omega⟩ ⟨k.val % 64, by omega⟩ d := by
    refine funext fun a => Fin.ext ?_
    match a with
    | ⟨0, _⟩ => dsimp [idx_main_v106, ix5, ix4]; omega
    | ⟨1, _⟩ => dsimp [idx_main_v106, ix5, ix4]; omega
    | ⟨2, _⟩ => dsimp [idx_main_v106, ix5, ix4]; omega
    | ⟨3, _⟩ => dsimp [idx_main_v106, ix5, ix4]; omega
    | ⟨4, _⟩ => dsimp [idx_main_v106, ix5, ix4]; omega
  rw [e, splitValue]
  refine congrArg x2 (congrArg (fun t => ix3 b t (lane h d)) (Fin.ext ?_))
  show 64 * (k.val / 64) + k.val % 64 = k.val
  omega

theorem ctxKey (x3 : FVec Ideal S16x256x512 .bf16) (b : Fin 16) (h : Fin 8) (n : Fin 256) (d : Fin 64) :
    val_main_v12 (F := Ideal) x3 (ix4 b h n d) = x3 (ix3 b n (lane h d)) := by
  rw [val_main_v12_apply, val_main_v11_apply, val_main_v3_apply]
  refine congrArg x3 (funext fun a => Fin.ext ?_)
  match a with
  | ⟨0, _⟩ => dsimp [idx_main_v12, idx_main_v11, ix4, ix3, lane]; omega
  | ⟨1, _⟩ => dsimp [idx_main_v12, idx_main_v11, ix4, ix3, lane]; omega
  | ⟨2, _⟩ => dsimp [idx_main_v12, idx_main_v11, ix4, ix3, lane]; omega

theorem ctxValue (x4 : FVec Ideal S16x256x512 .bf16) (b : Fin 16) (h : Fin 8) (n : Fin 256) (d : Fin 64) :
    val_main_v14 (F := Ideal) x4 (ix4 b h n d) = x4 (ix3 b n (lane h d)) := by
  rw [val_main_v14_apply, val_main_v13_apply, val_main_v4_apply]
  refine congrArg x4 (funext fun a => Fin.ext ?_)
  match a with
  | ⟨0, _⟩ => dsimp [idx_main_v14, idx_main_v13, ix4, ix3, lane]; omega
  | ⟨1, _⟩ => dsimp [idx_main_v14, idx_main_v13, ix4, ix3, lane]; omega
  | ⟨2, _⟩ => dsimp [idx_main_v14, idx_main_v13, ix4, ix3, lane]; omega

/-! ### The window and the bias, as words -/

/-- Key row `r'` lies in the window of query row `r`. -/
theorem rowOk (r r' : Fin 32) : val_main_v35 (F := Ideal) (ix2 r r') = if min 24 (r.val - 4) ≤ r'.val ∧ r'.val < min 24 (r.val - 4) + 8 then 1#1 else 0#1 := by
  simp only [val_main_v35_apply, val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v19_apply, val_main_v18_apply, val_main_v17_apply, val_main_v15_apply,
    val_main_call0_v4_apply, val_main_call0_v3_apply, val_main_call0_v2_apply, val_main_call0_v1_apply, val_main_call0_v0_apply, val_main_c_apply, val_main_c_0_apply, val_main_c_1_apply, val_main_c_5_apply]
  revert r r'
  decide +kernel

/-- Key column `c'` lies in the window of query column `c`. -/
theorem colOk (c c' : Fin 64) : val_main_v48 (F := Ideal) (ix2 c c') = if min 48 (c.val - 8) ≤ c'.val ∧ c'.val < min 48 (c.val - 8) + 16 then 1#1 else 0#1 := by
  simp only [val_main_v48_apply, val_main_v47_apply, val_main_v46_apply, val_main_v45_apply, val_main_v44_apply, val_main_v43_apply, val_main_v42_apply, val_main_v41_apply,
    val_main_v40_apply, val_main_v39_apply, val_main_v38_apply, val_main_v37_apply, val_main_v36_apply, val_main_v22_apply, val_main_v21_apply, val_main_v20_apply, val_main_v16_apply,
    val_main_call1_v4_apply, val_main_call1_v3_apply, val_main_call1_v2_apply, val_main_call1_v1_apply, val_main_call1_v0_apply, val_main_c_2_apply, val_main_c_3_apply, val_main_c_4_apply, val_main_c_6_apply]
  revert c c'
  decide +kernel

/-- The bias row of a query row and a key row. -/
theorem rowWord (r r' : Fin 32) : min (val_main_v75 (F := Ideal) (ix4 r 0 r' 0)).toInt.toNat 14 = min 14 (r'.val + 7 - r.val) := by
  simp only [val_main_v75_apply, val_main_v74_apply, val_main_v73_apply, val_main_v72_apply, val_main_v71_apply, val_main_v69_apply, val_main_v58_apply, val_main_v57_apply,
    val_main_v56_apply, val_main_v55_apply, val_main_v54_apply, val_main_v53_apply, val_main_v52_apply, val_main_v51_apply, val_main_v50_apply, val_main_v49_apply, val_main_v15_apply,
    val_main_call2_v4_apply, val_main_call2_v3_apply, val_main_call2_v2_apply, val_main_call2_v1_apply, val_main_call2_v0_apply, val_main_c_7_apply, val_main_c_8_apply, val_main_c_9_apply, val_main_c_10_apply,
    val_main_c_15_apply, val_main_c_16_apply]
  revert r r'
  decide +kernel

/-- The bias column of a query column and a key column. -/
theorem colWord (c c' : Fin 64) : min (val_main_v80 (F := Ideal) (ix4 0 c 0 c')).toInt.toNat 30 = min 30 (c'.val + 15 - c.val) := by
  simp only [val_main_v80_apply, val_main_v79_apply, val_main_v78_apply, val_main_v77_apply, val_main_v76_apply, val_main_v70_apply, val_main_v68_apply, val_main_v67_apply,
    val_main_v66_apply, val_main_v65_apply, val_main_v64_apply, val_main_v63_apply, val_main_v62_apply, val_main_v61_apply, val_main_v60_apply, val_main_v59_apply, val_main_v16_apply,
    val_main_call3_v4_apply, val_main_call3_v3_apply, val_main_call3_v2_apply, val_main_call3_v1_apply, val_main_call3_v0_apply, val_main_c_11_apply, val_main_c_12_apply, val_main_c_13_apply, val_main_c_14_apply,
    val_main_c_17_apply, val_main_c_18_apply]
  revert c c'
  decide +kernel

end Cert.NaRefIdeal.Plain
-- ==== Proof.NaRefScore.lean ====
/-
  The neighbourhood attention's reference: the scores of a query, their largest, and the output entry as one quotient of sums.
-/
module

public import proofs.«01_k».proof.Proof.NaRefRead

set_option maxRecDepth 16384
set_option maxHeartbeats 2000000

@[expose] public section

noncomputable section

open Idealize.ShloMosaic Idealize.ShloMosaic.TcCoe Idealize.ShloMosaic.Tactic

namespace Cert.NaRefIdeal.Plain

open Cert.NaRefIdeal Cert.NaRefIdeal.Read

/-- The words of a bias row stand first, those of a bias column second. -/
theorem words_first (y z : IVec S32x64x32x64x1 32) (r : Fin 32) (c : Fin 64) (r' : Fin 32) (c' : Fin 64) (w) :
    concatenate S32x64x32x64x2 4 [⟨S32x64x32x64x1, y⟩, ⟨S32x64x32x64x1, z⟩] w (ix5 r c r' c' 0) = y (ix5 r c r' c' 0) :=
  concatenate_pair_apply_left 4 y z w (ix5 r c r' c' 0) rfl (ix5 r c r' c' 0) fun b => match b with
    | ⟨0, _⟩ => rfl
    | ⟨1, _⟩ => rfl
    | ⟨2, _⟩ => rfl
    | ⟨3, _⟩ => rfl
    | ⟨4, _⟩ => rfl

theorem words_second (y z : IVec S32x64x32x64x1 32) (r : Fin 32) (c : Fin 64) (r' : Fin 32) (c' : Fin 64) (w) :
    concatenate S32x64x32x64x2 4 [⟨S32x64x32x64x1, y⟩, ⟨S32x64x32x64x1, z⟩] w (ix5 r c r' c' 1) = z (ix5 r c r' c' 0) :=
  concatenate_pair_apply_right 4 y z w (ix5 r c r' c' 1) rfl rfl (ix5 r c r' c' 0) (fun b => match b with
    | ⟨0, _⟩ => fun _ => rfl
    | ⟨1, _⟩ => fun _ => rfl
    | ⟨2, _⟩ => fun _ => rfl
    | ⟨3, _⟩ => fun _ => rfl
    | ⟨4, _⟩ => fun h => absurd rfl h) rfl

theorem word0 (r : Fin 32) (c : Fin 64) (r' : Fin 32) (c' : Fin 64) :
    val_main_v85 (F := Ideal) (ix5 r c r' c' 0) = val_main_v75 (F := Ideal) (ix4 r 0 r' 0) := by
  have e : idx_main_v81 (idx_main_v83 (ix5 r c r' c' 0)) = ix4 r 0 r' 0 := by
    funext a; match a with
    | ⟨0, _⟩ => rfl
    | ⟨1, _⟩ => rfl
    | ⟨2, _⟩ => rfl
    | ⟨3, _⟩ => rfl
  unfold val_main_v85
  rw [words_first, val_main_v83_apply, val_main_v81_apply, e]

theorem word1 (r : Fin 32) (c : Fin 64) (r' : Fin 32) (c' : Fin 64) :
    val_main_v85 (F := Ideal) (ix5 r c r' c' 1) = val_main_v80 (F := Ideal) (ix4 0 c 0 c') := by
  have e : idx_main_v82 (idx_main_v84 (ix5 r c r' c' 0)) = ix4 0 c 0 c' := by
    funext a; match a with
    | ⟨0, _⟩ => rfl
    | ⟨1, _⟩ => rfl
    | ⟨2, _⟩ => rfl
    | ⟨3, _⟩ => rfl
  unfold val_main_v85
  rw [words_second, val_main_v84_apply, val_main_v82_apply, e]

/-- The bias of a query at row `r`, column `c` and a key at row `r'`, column `c'`. -/
theorem bias (x5 : FVec Ideal S8x15x31 .f32) (h : Fin 8) (r : Fin 32) (c : Fin 64) (r' : Fin 32) (c' : Fin 64) :
    val_main_v86 (F := Ideal) x5 (ix5 h r c r' c') = x5 (ix3 h ⟨min 14 (r'.val + 7 - r.val), by omega⟩ ⟨min 30 (c'.val + 15 - c.val), by omega⟩) := by
  have e := Cert.NaGather.entries_apply Facts₀.gather_S8x15x31_S32x64x32x64x2_S8x32x64x32x64_0_12_n_n_12_4_811_wf x5 (val_main_v85 (F := Ideal)) h r c r' c'
  simp only [word0, word1, rowWord, colWord] at e
  exact e

end Cert.NaRefIdeal.Plain
-- ==== Proof.NaBand.lean ====
/-
  A softmax over the whole grid whose scores are −∞ outside a band is the softmax over the band: the same largest score and the same sums.
-/
module

public import Idealize.ShloMosaic.PureOps.Ideal
public import Mathlib.Algebra.BigOperators.Fin
public import Mathlib.Data.Finset.Fold

@[expose] public section

noncomputable section

open Idealize.ShloMosaic

namespace Cert.NaBand

theorem lowest_eq : Ideal.ofBits .f32 0xFF800000#32 = (⊥ : EReal) := by simp [Ideal.ofBits, Ideal.ieee]

theorem exp_bot_sub (M : EReal) : Ideal.exp (⊥ - M) = 0 := by
  rw [sub_eq_add_neg, EReal.bot_add]; rfl

section
variable {n l : ℕ} {f : Fin n → EReal} {g : Fin l → EReal} {ρ : Fin l → Fin n} (hρ : Function.Injective ρ)
  (hg : ∀ j, g j = f (ρ j)) (hout : ∀ x, (∀ j, ρ j ≠ x) → f x = ⊥)

include hg hout in
/-- The largest score of the band is the largest of all. -/
theorem fold_band : Finset.fold max ⊥ g Finset.univ = Finset.fold max ⊥ f Finset.univ := by
  refine le_antisymm ((Finset.fold_max_le _).2 ⟨bot_le, fun j _ => ?_⟩) ((Finset.fold_max_le _).2 ⟨bot_le, fun x _ => ?_⟩)
  · exact (Finset.le_fold_max _).2 (Or.inr ⟨ρ j, Finset.mem_univ _, (hg j).le⟩)
  · by_cases hx : ∃ j, ρ j = x
    · obtain ⟨j, rfl⟩ := hx
      exact (Finset.le_fold_max _).2 (Or.inr ⟨j, Finset.mem_univ _, (hg j).ge⟩)
    · rw [hout x (fun j e => hx ⟨j, e⟩)]; exact bot_le

include hρ hg hout in
/-- A sum weighted by the exponentials over the band is the sum over all. -/
theorem sum_band (M : EReal) (v : Fin n → EReal) :
    ∑ j, Ideal.exp (g j - M) * v (ρ j) = ∑ x, Ideal.exp (f x - M) * v x := by
  refine Finset.sum_of_injOn ρ hρ.injOn (fun _ _ => Finset.mem_univ _) (fun x _ hx => ?_) (fun j _ => by rw [hg])
  rw [hout x (fun j e => hx ⟨j, Finset.mem_coe.2 (Finset.mem_univ _), e⟩), exp_bot_sub, zero_mul]

include hρ hg hout in
/-- The sum of the exponentials over the band is the sum over all. -/
theorem sum_band_one (M : EReal) : ∑ j, Ideal.exp (g j - M) = ∑ x, Ideal.exp (f x - M) := by
  have h := sum_band hρ hg hout M (fun _ => 1)
  simpa only [mul_one] using h

end

/-- The largest of two runs of values is the larger of each run's largest. -/
theorem fold_add {m n : ℕ} (F : Fin (m + n) → EReal) :
    Finset.fold max ⊥ F Finset.univ
      = max (Finset.fold max ⊥ (fun i => F (Fin.castAdd n i)) Finset.univ) (Finset.fold max ⊥ (fun i => F (Fin.natAdd m i)) Finset.univ) := by
  refine le_antisymm ((Finset.fold_max_le _).2 ⟨bot_le, fun x _ => ?_⟩)
    (max_le ((Finset.fold_max_le _).2 ⟨bot_le, fun j _ => ?_⟩) ((Finset.fold_max_le _).2 ⟨bot_le, fun j _ => ?_⟩))
  · refine Fin.addCases (fun i => ?_) (fun i => ?_) x
    · exact le_max_of_le_left ((Finset.le_fold_max _).2 (Or.inr ⟨i, Finset.mem_univ _, le_rfl⟩))
    · exact le_max_of_le_right ((Finset.le_fold_max _).2 (Or.inr ⟨i, Finset.mem_univ _, le_rfl⟩))
  · exact (Finset.le_fold_max _).2 (Or.inr ⟨_, Finset.mem_univ _, le_rfl⟩)
  · exact (Finset.le_fold_max _).2 (Or.inr ⟨_, Finset.mem_univ _, le_rfl⟩)

end Cert.NaBand
-- ==== Proof.NaRefMost.lean ====
/-
  The neighbourhood attention's reference: the scores of a query, their largest, and the output entry as one quotient of sums.
-/
module

public import proofs.«01_k».proof.Proof.NaRefScore
public import proofs.«01_k».proof.Proof.NaBand
public import Idealize.ShloMosaic.Lib.ValueIdxRank6

set_option maxRecDepth 16384
set_option maxHeartbeats 2000000

@[expose] public section

noncomputable section

open Idealize.ShloMosaic Idealize.ShloMosaic.TcCoe Idealize.ShloMosaic.Tactic

namespace Cert.NaRefIdeal.Plain

open Cert.NaRefIdeal Cert.NaRefIdeal.Read

section
variable (x0 x1 x2 : FVec Ideal S16x2048x512 .bf16) (x3 x4 : FVec Ideal S16x256x512 .bf16) (x5 : FVec Ideal S8x15x31 .f32)

/-- The smallest value a maximum starts from. -/
abbrev lowest : EReal := Ideal.ofBits FTy.f32 0xFF800000#32

/-- The score of the query at row `r`, column `c` against the key at row `r'`, column `c'`: −∞ outside the window. -/
def sc (b : Fin 16) (h : Fin 8) (r : Fin 32) (c : Fin 64) (r' : Fin 32) (c' : Fin 64) : EReal :=
  if (min 24 (r.val - 4) ≤ r'.val ∧ r'.val < min 24 (r.val - 4) + 8) ∧ (min 48 (c.val - 8) ≤ c'.val ∧ c'.val < min 48 (c.val - 8) + 16) then
    (∑ e : Fin 64, x0 (ix3 b (tok r c) (lane h e)) * x1 (ix3 b (tok r' c') (lane h e)))
      + x5 (ix3 h ⟨min 14 (r'.val + 7 - r.val), by omega⟩ ⟨min 30 (c'.val + 15 - c.val), by omega⟩)
  else lowest

/-- The score against the key token `k`. -/
def scK (b : Fin 16) (h : Fin 8) (r : Fin 32) (c : Fin 64) (k : Fin 2048) : EReal :=
  sc x0 x1 x5 b h r c ⟨k.val / 64, by omega⟩ ⟨k.val % 64, by omega⟩

/-- The score against the context token `n`. -/
def sx (b : Fin 16) (h : Fin 8) (r : Fin 32) (c : Fin 64) (n : Fin 256) : EReal :=
  ∑ e : Fin 64, x0 (ix3 b (tok r c) (lane h e)) * x3 (ix3 b n (lane h e))

/-- The largest score of a query. -/
def most (b : Fin 16) (h : Fin 8) (r : Fin 32) (c : Fin 64) : EReal :=
  max (Finset.fold max lowest (fun k => scK x0 x1 x5 b h r c k) Finset.univ) (Finset.fold max lowest (fun n => sx x0 x3 b h r c n) Finset.univ)

theorem masked (b : Fin 16) (h : Fin 8) (r : Fin 32) (c : Fin 64) (r' : Fin 32) (c' : Fin 64) :
    val_main_v96 (F := Ideal) x0 x1 x5 (ix6 b h r c r' c') = sc x0 x1 x5 b h r c r' c' := by
  rw [val_main_v96_apply, val_main_call4_v1_apply, val_main_v95_apply, val_main_v93_apply, val_main_v94_apply, val_main_v91_apply, val_main_v92_apply,
    val_main_call4_v2_apply, val_main_call4_v0_apply, val_main_cst_apply, val_main_v90_apply, val_main_v87_apply, val_main_v89_apply, val_main_v88_apply]
  have e1 : idx_main_v91 (idx_main_v93 (idx_main_call4_v1 (ix6 b h r c r' c'))) = ix2 r r' := by
    funext a; match a with
    | ⟨0, _⟩ => rfl
    | ⟨1, _⟩ => rfl
  have e2 : idx_main_v92 (idx_main_v94 (idx_main_call4_v1 (ix6 b h r c r' c'))) = ix2 c c' := by
    funext a; match a with
    | ⟨0, _⟩ => rfl
    | ⟨1, _⟩ => rfl
  have e3 : idx_main_v88 (idx_main_v89 (ix6 b h r c r' c')) = ix5 h r c r' c' := by
    funext a; match a with
    | ⟨0, _⟩ => rfl
    | ⟨1, _⟩ => rfl
    | ⟨2, _⟩ => rfl
    | ⟨3, _⟩ => rfl
    | ⟨4, _⟩ => rfl
  have e4 : ∀ e : Fin 64, lidx_main_v87 (ix6 b h r c r' c') e = ix5 b h r c e := fun e => by
    funext a; match a with
    | ⟨0, _⟩ => rfl
    | ⟨1, _⟩ => rfl
    | ⟨2, _⟩ => rfl
    | ⟨3, _⟩ => rfl
    | ⟨4, _⟩ => rfl
  have e5 : ∀ e : Fin 64, ridx_main_v87 (ix6 b h r c r' c') e = ix5 b h r' c' e := fun e => by
    funext a; match a with
    | ⟨0, _⟩ => rfl
    | ⟨1, _⟩ => rfl
    | ⟨2, _⟩ => rfl
    | ⟨3, _⟩ => rfl
    | ⟨4, _⟩ => rfl
  simp only [e1, e2, e3, e4, e5, rowOk, colOk, bias, query, key]
  unfold sc
  by_cases g : min 24 (r.val - 4) ≤ r'.val ∧ r'.val < min 24 (r.val - 4) + 8
  · by_cases g' : min 48 (c.val - 8) ≤ c'.val ∧ c'.val < min 48 (c.val - 8) + 16
    · rw [if_pos g, if_pos g', if_pos ⟨g, g'⟩]; rfl
    · rw [if_pos g, if_neg g', if_neg (fun x => g' x.2)]; rfl
  · by_cases g' : min 48 (c.val - 8) ≤ c'.val ∧ c'.val < min 48 (c.val - 8) + 16
    · rw [if_neg g, if_pos g', if_neg (fun x => g x.1)]; rfl
    · rw [if_neg g, if_neg g', if_neg (fun x => g' x.2)]; rfl

theorem flat (b : Fin 16) (h : Fin 8) (r : Fin 32) (c : Fin 64) (k : Fin 2048) :
    val_main_v98 (F := Ideal) x0 x1 x5 (ix5 b h r c k) = scK x0 x1 x5 b h r c k := by
  refine Eq.trans ?_ (masked x0 x1 x5 b h r c ⟨k.val / 64, by omega⟩ ⟨k.val % 64, by omega⟩)
  unfold val_main_v98
  generalize val_main_v96 (F := Ideal) x0 x1 x5 = y
  refine shapeCast_apply y _ _ _ ?_
  rewrite [Shape.rowMajor_val_six, Shape.rowMajor_val_five]
  show ((((b.val * 8 + h.val) * 32 + r.val) * 64 + c.val) * 32 + k.val / 64) * 64 + k.val % 64 = (((b.val * 8 + h.val) * 32 + r.val) * 64 + c.val) * 2048 + k.val
  omega

theorem context (b : Fin 16) (h : Fin 8) (r : Fin 32) (c : Fin 64) (n : Fin 256) :
    val_main_v97 (F := Ideal) x0 x3 (ix5 b h r c n) = sx x0 x3 b h r c n := by
  rw [val_main_v97_apply]
  have e4 : ∀ e : Fin 64, lidx_main_v97 (ix5 b h r c n) e = ix5 b h r c e := fun e => by
    funext a; match a with
    | ⟨0, _⟩ => rfl
    | ⟨1, _⟩ => rfl
    | ⟨2, _⟩ => rfl
    | ⟨3, _⟩ => rfl
    | ⟨4, _⟩ => rfl
  have e5 : ∀ e : Fin 64, ridx_main_v97 (ix5 b h r c n) e = ix4 b h n e := fun e => by
    funext a; match a with
    | ⟨0, _⟩ => rfl
    | ⟨1, _⟩ => rfl
    | ⟨2, _⟩ => rfl
    | ⟨3, _⟩ => rfl
  simp only [e4, e5, query, ctxKey]
  rfl

theorem joined_left (y : FVec Ideal S16x8x32x64x2048 .f32) (z : FVec Ideal S16x8x32x64x256 .f32) (w) (b : Fin 16) (h : Fin 8) (r : Fin 32) (c : Fin 64) (k : Fin 2048) :
    concatenate S16x8x32x64x2304 4 [⟨S16x8x32x64x2048, y⟩, ⟨S16x8x32x64x256, z⟩] w (ix5 b h r c (Fin.castAdd 256 k)) = y (ix5 b h r c k) :=
  concatenate_pair_apply_left 4 y z w (ix5 b h r c (Fin.castAdd 256 k)) rfl (ix5 b h r c k) fun a => match a with
    | ⟨0, _⟩ => rfl
    | ⟨1, _⟩ => rfl
    | ⟨2, _⟩ => rfl
    | ⟨3, _⟩ => rfl
    | ⟨4, _⟩ => rfl

theorem joined_right (y : FVec Ideal S16x8x32x64x2048 .f32) (z : FVec Ideal S16x8x32x64x256 .f32) (w) (b : Fin 16) (h : Fin 8) (r : Fin 32) (c : Fin 64) (n : Fin 256) :
    concatenate S16x8x32x64x2304 4 [⟨S16x8x32x64x2048, y⟩, ⟨S16x8x32x64x256, z⟩] w (ix5 b h r c (Fin.natAdd 2048 n)) = z (ix5 b h r c n) :=
  concatenate_pair_apply_right 4 y z w (ix5 b h r c (Fin.natAdd 2048 n)) rfl rfl (ix5 b h r c n) (fun a => match a with
    | ⟨0, _⟩ => fun _ => rfl
    | ⟨1, _⟩ => fun _ => rfl
    | ⟨2, _⟩ => fun _ => rfl
    | ⟨3, _⟩ => fun _ => rfl
    | ⟨4, _⟩ => fun h => absurd rfl h) (Nat.add_comm n.val 2048)

theorem all_left (b : Fin 16) (h : Fin 8) (r : Fin 32) (c : Fin 64) (k : Fin 2048) :
    val_main_v99 (F := Ideal) x0 x1 x3 x5 (ix5 b h r c (Fin.castAdd 256 k)) = scK x0 x1 x5 b h r c k := by
  refine Eq.trans ?_ (flat x0 x1 x5 b h r c k)
  unfold val_main_v99
  generalize val_main_v98 (F := Ideal) x0 x1 x5 = y
  generalize val_main_v97 (F := Ideal) x0 x3 = z
  exact joined_left y z _ b h r c k

theorem all_right (b : Fin 16) (h : Fin 8) (r : Fin 32) (c : Fin 64) (n : Fin 256) :
    val_main_v99 (F := Ideal) x0 x1 x3 x5 (ix5 b h r c (Fin.natAdd 2048 n)) = sx x0 x3 b h r c n := by
  refine Eq.trans ?_ (context x0 x3 b h r c n)
  unfold val_main_v99
  generalize val_main_v98 (F := Ideal) x0 x1 x5 = y
  generalize val_main_v97 (F := Ideal) x0 x3 = z
  exact joined_right y z _ b h r c n

theorem largest (b : Fin 16) (h : Fin 8) (r : Fin 32) (c : Fin 64) :
    val_main_v100 (F := Ideal) x0 x1 x3 x5 (ix4 b h r c) = most x0 x1 x3 x5 b h r c := by
  have e : val_main_v100 (F := Ideal) x0 x1 x3 x5 (ix4 b h r c)
      = Finset.fold max lowest (fun k : Fin 2304 => val_main_v99 (F := Ideal) x0 x1 x3 x5 (ix5 b h r c k)) Finset.univ := by
    unfold val_main_v100
    generalize val_main_v99 (F := Ideal) x0 x1 x3 x5 = y
    pointwise
    rfl
  rw [e]
  unfold most lowest
  rw [Cert.NaBand.lowest_eq]
  refine (Cert.NaBand.fold_add (m := 2048) (n := 256) _).trans ?_
  simp only [all_left, all_right]

end

end Cert.NaRefIdeal.Plain
-- ==== Proof.NaRefOut.lean ====
/-
  The neighbourhood attention's reference: an output entry as one quotient of sums.
-/
module

public import proofs.«01_k».proof.Proof.NaRefMost

set_option maxRecDepth 16384
set_option maxHeartbeats 2000000

@[expose] public section

noncomputable section

open Idealize.ShloMosaic Idealize.ShloMosaic.TcCoe Idealize.ShloMosaic.Tactic

namespace Cert.NaRefIdeal.Plain

open Cert.NaRefIdeal Cert.NaRefIdeal.Read

section
variable (x0 x1 x2 : FVec Ideal S16x2048x512 .bf16) (x3 x4 : FVec Ideal S16x256x512 .bf16) (x5 : FVec Ideal S8x15x31 .f32)

/-- The weight of a score, not yet divided. -/
theorem weight (b : Fin 16) (h : Fin 8) (r : Fin 32) (c : Fin 64) (k : Fin 2304) :
    val_main_v104 (F := Ideal) x0 x1 x3 x5 (ix5 b h r c k) = Ideal.exp (val_main_v99 (F := Ideal) x0 x1 x3 x5 (ix5 b h r c k) - most x0 x1 x3 x5 b h r c) := by
  rw [val_main_v104_apply, val_main_v103_apply, val_main_v102_apply, val_main_v101_apply]
  have e : idx_main_v101 (idx_main_v102 (ix5 b h r c k)) = ix4 b h r c := by
    funext a; match a with
    | ⟨0, _⟩ => rfl
    | ⟨1, _⟩ => rfl
    | ⟨2, _⟩ => rfl
    | ⟨3, _⟩ => rfl
  rw [e, largest]
  generalize val_main_v99 (F := Ideal) x0 x1 x3 x5 (ix5 b h r c k) = y
  rfl

theorem weight_left (b : Fin 16) (h : Fin 8) (r : Fin 32) (c : Fin 64) (k : Fin 2048) :
    val_main_v105 (F := Ideal) x0 x1 x3 x5 (ix5 b h r c k) = Ideal.exp (scK x0 x1 x5 b h r c k - most x0 x1 x3 x5 b h r c) := by
  rw [val_main_v105_apply]
  have e : idx_main_v105 (ix5 b h r c k) = ix5 b h r c (Fin.castAdd 256 k) := by
    funext a; match a with
    | ⟨0, _⟩ => rfl
    | ⟨1, _⟩ => rfl
    | ⟨2, _⟩ => rfl
    | ⟨3, _⟩ => rfl
    | ⟨4, _⟩ => rfl
  rw [e, weight, all_left]

theorem weight_right (b : Fin 16) (h : Fin 8) (r : Fin 32) (c : Fin 64) (n : Fin 256) :
    val_main_v108 (F := Ideal) x0 x1 x3 x5 (ix5 b h r c n) = Ideal.exp (sx x0 x3 b h r c n - most x0 x1 x3 x5 b h r c) := by
  rw [val_main_v108_apply]
  have e : idx_main_v108 (ix5 b h r c n) = ix5 b h r c (Fin.natAdd 2048 n) := by
    funext a; match a with
    | ⟨0, _⟩ => rfl
    | ⟨1, _⟩ => rfl
    | ⟨2, _⟩ => rfl
    | ⟨3, _⟩ => rfl
    | ⟨4, _⟩ => rfl
  rw [e, weight, all_right]

/-- The weighted values of the grid. -/
theorem num_left (b : Fin 16) (h : Fin 8) (r : Fin 32) (c : Fin 64) (d : Fin 64) :
    val_main_v107 (F := Ideal) x0 x1 x2 x3 x5 (ix5 b h r c d)
      = ∑ k : Fin 2048, Ideal.exp (scK x0 x1 x5 b h r c k - most x0 x1 x3 x5 b h r c) * x2 (ix3 b k (lane h d)) := by
  rw [val_main_v107_apply]
  have e4 : ∀ k : Fin 2048, lidx_main_v107 (ix5 b h r c d) k = ix5 b h r c k := fun k => by
    funext a; match a with
    | ⟨0, _⟩ => rfl
    | ⟨1, _⟩ => rfl
    | ⟨2, _⟩ => rfl
    | ⟨3, _⟩ => rfl
    | ⟨4, _⟩ => rfl
  have e5 : ∀ k : Fin 2048, ridx_main_v107 (ix5 b h r c d) k = ix4 b h k d := fun k => by
    funext a; match a with
    | ⟨0, _⟩ => rfl
    | ⟨1, _⟩ => rfl
    | ⟨2, _⟩ => rfl
    | ⟨3, _⟩ => rfl
  simp only [e4, e5, weight_left, value]

/-- The weighted values of the context. -/
theorem num_right (b : Fin 16) (h : Fin 8) (r : Fin 32) (c : Fin 64) (d : Fin 64) :
    val_main_v109 (F := Ideal) x0 x1 x3 x4 x5 (ix5 b h r c d)
      = ∑ n : Fin 256, Ideal.exp (sx x0 x3 b h r c n - most x0 x1 x3 x5 b h r c) * x4 (ix3 b n (lane h d)) := by
  rw [val_main_v109_apply]
  have e4 : ∀ n : Fin 256, lidx_main_v109 (ix5 b h r c d) n = ix5 b h r c n := fun k => by
    funext a; match a with
    | ⟨0, _⟩ => rfl
    | ⟨1, _⟩ => rfl
    | ⟨2, _⟩ => rfl
    | ⟨3, _⟩ => rfl
    | ⟨4, _⟩ => rfl
  have e5 : ∀ n : Fin 256, ridx_main_v109 (ix5 b h r c d) n = ix4 b h n d := fun k => by
    funext a; match a with
    | ⟨0, _⟩ => rfl
    | ⟨1, _⟩ => rfl
    | ⟨2, _⟩ => rfl
    | ⟨3, _⟩ => rfl
  simp only [e4, e5, weight_right, ctxValue]

/-- The sum of the weights. -/
theorem den (b : Fin 16) (h : Fin 8) (r : Fin 32) (c : Fin 64) :
    val_main_v111 (F := Ideal) x0 x1 x3 x5 (ix4 b h r c)
      = ∑ k : Fin 2048, Ideal.exp (scK x0 x1 x5 b h r c k - most x0 x1 x3 x5 b h r c)
        + ∑ n : Fin 256, Ideal.exp (sx x0 x3 b h r c n - most x0 x1 x3 x5 b h r c) := by
  rw [val_main_v111_apply, val_main_cst_20_apply]
  have e4 : ∀ k : Fin 2304, idx_main_v111 (ix4 b h r c) k = ix5 b h r c k := fun k => by
    funext a; match a with
    | ⟨0, _⟩ => rfl
    | ⟨1, _⟩ => rfl
    | ⟨2, _⟩ => rfl
    | ⟨3, _⟩ => rfl
    | ⟨4, _⟩ => rfl
  have z : FloatOps.ofBits (F := Ideal) .f32 0x00000000#32 = (0 : EReal) := by
    show Ideal.ofBits .f32 0x00000000#32 = (0 : EReal)
    simp [Ideal.ofBits, Ideal.ieee]
  simp only [e4, weight]
  refine (congrArg (· + _) z).trans ((zero_add _).trans ?_)
  refine (Fin.sum_univ_add (a := 2048) (b := 256) _).trans ?_
  simp only [all_left, all_right]

/-- An output entry. -/
theorem out (b : Fin 16) (h : Fin 8) (r : Fin 32) (c : Fin 64) (d : Fin 64) :
    val_main_v117 (F := Ideal) x0 x1 x2 x3 x4 x5 (ix3 b (tok r c) (lane h d))
      = Ideal.div
        (∑ k : Fin 2048, Ideal.exp (scK x0 x1 x5 b h r c k - most x0 x1 x3 x5 b h r c) * x2 (ix3 b k (lane h d))
          + ∑ n : Fin 256, Ideal.exp (sx x0 x3 b h r c n - most x0 x1 x3 x5 b h r c) * x4 (ix3 b n (lane h d)))
        (∑ k : Fin 2048, Ideal.exp (scK x0 x1 x5 b h r c k - most x0 x1 x3 x5 b h r c)
          + ∑ n : Fin 256, Ideal.exp (sx x0 x3 b h r c n - most x0 x1 x3 x5 b h r c)) := by
  rw [val_main_v117_apply, val_main_v116_apply, val_main_v115_apply]
  have e : idx_main_v115 (idx_main_v116 (ix3 b (tok r c) (lane h d))) = ix5 b h r c d := by
    refine funext fun a => Fin.ext ?_
    match a with
    | ⟨0, _⟩ => dsimp [idx_main_v115, idx_main_v116, ix5, ix3, tok, lane]; omega
    | ⟨1, _⟩ => dsimp [idx_main_v115, idx_main_v116, ix5, ix3, tok, lane]; omega
    | ⟨2, _⟩ => dsimp [idx_main_v115, idx_main_v116, ix5, ix3, tok, lane]; omega
    | ⟨3, _⟩ => dsimp [idx_main_v115, idx_main_v116, ix5, ix3, tok, lane]; omega
    | ⟨4, _⟩ => dsimp [idx_main_v115, idx_main_v116, ix5, ix3, tok, lane]; omega
  rw [e, val_main_v114_apply, val_main_v110_apply, num_left, num_right, val_main_v113_apply, val_main_v112_apply]
  have e' : idx_main_v112 (idx_main_v113 (ix5 b h r c d)) = ix4 b h r c := by
    funext a; match a with
    | ⟨0, _⟩ => rfl
    | ⟨1, _⟩ => rfl
    | ⟨2, _⟩ => rfl
    | ⟨3, _⟩ => rfl
  rw [e', den]
  rfl

end

end Cert.NaRefIdeal.Plain
-- ==== Proof.NaJoin.lean ====
/-
  The neighbourhood attention: the block the kernel leaves, entry by entry, against the reference's quotient of sums.
-/
module

public import proofs.«01_k».proof.Proof.NaSpec
public import proofs.«01_k».proof.Proof.NaBiasAll
public import proofs.«01_k».proof.Proof.NaRefOut

set_option maxRecDepth 16384
set_option maxHeartbeats 1000000

@[expose] public section

noncomputable section

open Idealize.ShloMosaic Idealize.ShloMosaic.TcCoe Idealize.ShloMosaic.Tactic

namespace Cert.NaIdeal.Out

open Cert.NaIdeal Cert.NaIdeal.Gen
open Cert.NaRefIdeal.Plain (tok lane sc scK sx most)

theorem mask_first : ∀ e : Fin 128, mask 0 (ix2 0 e) = if e.val < 64 then 1#1 else 0#1 := by decide +kernel
theorem mask_second : ∀ e : Fin 128, mask 1 (ix2 0 e) = if e.val < 64 then 0#1 else 1#1 := by decide +kernel

theorem pick_one (a b : EReal) : Scalar.select 1#1 a b = a := rfl
theorem pick_zero (a b : EReal) : Scalar.select 0#1 a b = b := rfl

/-- A sum over the pair's lanes under a head's mask is the sum over that head's lanes. -/
theorem mask_sum (h : Fin 2) (A : Fin 128 → EReal) :
    ∑ e : Fin 128, Scalar.select (mask h (ix2 0 e)) (A e) 0 = ∑ e : Fin 64, A ⟨64 * h.val + e.val, by omega⟩ := by
  refine (Fin.sum_univ_add (a := 64) (b := 64) _).trans ?_
  have l : ∀ i : Fin 64, (Fin.castAdd 64 i : Fin 128).val = i.val := fun _ => rfl
  have r : ∀ i : Fin 64, (Fin.natAdd 64 i : Fin 128).val = 64 + i.val := fun _ => rfl
  have l' : ∀ i : Fin 64, (Fin.castAdd 64 i : Fin 128).val < 64 := fun i => i.isLt
  have r' : ∀ i : Fin 64, ¬ (Fin.natAdd 64 i : Fin 128).val < 64 := fun i => by rw [r]; omega
  match h with
  | ⟨0, _⟩ =>
    have e1 : ∀ i : Fin 64, Scalar.select (mask 0 (ix2 0 (Fin.castAdd 64 i : Fin 128))) (A (Fin.castAdd 64 i)) 0 = A (Fin.castAdd 64 i) := fun i => by
      rw [mask_first, if_pos (l' i), pick_one]
    have e2 : ∀ i : Fin 64, Scalar.select (mask 0 (ix2 0 (Fin.natAdd 64 i : Fin 128))) (A (Fin.natAdd 64 i)) 0 = 0 := fun i => by
      rw [mask_first, if_neg (r' i), pick_zero]
    refine (congrArg₂ (· + ·) (Finset.sum_congr rfl fun i _ => e1 i) (Finset.sum_congr rfl fun i _ => e2 i)).trans ?_
    rw [Finset.sum_const_zero, add_zero]
    exact Finset.sum_congr rfl fun i _ => congrArg A (Fin.ext (by show i.val = 64 * 0 + i.val; omega))
  | ⟨1, _⟩ =>
    have e1 : ∀ i : Fin 64, Scalar.select (mask 1 (ix2 0 (Fin.castAdd 64 i : Fin 128))) (A (Fin.castAdd 64 i)) 0 = 0 := fun i => by
      rw [mask_second, if_pos (l' i), pick_zero]
    have e2 : ∀ i : Fin 64, Scalar.select (mask 1 (ix2 0 (Fin.natAdd 64 i : Fin 128))) (A (Fin.natAdd 64 i)) 0 = A (Fin.natAdd 64 i) := fun i => by
      rw [mask_second, if_neg (r' i), pick_one]
    refine (congrArg₂ (· + ·) (Finset.sum_congr rfl fun i _ => e1 i) (Finset.sum_congr rfl fun i _ => e2 i)).trans ?_
    rw [Finset.sum_const_zero, zero_add]
    exact Finset.sum_congr rfl fun i _ => congrArg A (Fin.ext (by show 64 + i.val = 64 * 1 + i.val; omega))

/-- The grid row and column of a token. -/
def rowOf (p : Fin 2048) : Fin 32 := ⟨p.val / 64, by omega⟩
def colOf (p : Fin 2048) : Fin 64 := ⟨p.val % 64, by omega⟩

theorem tok_of (p : Fin 2048) : tok (rowOf p) (colOf p) = p := Fin.ext (by simp only [tok, rowOf, colOf]; omega)

/-- Head `h` of pair `g`, and lane `e` of the pair. -/
def hd (g : Fin 4) (h : Fin 2) : Fin 8 := ⟨2 * g.val + h.val, by omega⟩
def ln (g : Fin 4) (e : Fin 128) : Fin 512 := ⟨128 * g.val + e.val, by omega⟩

theorem ln_head (g : Fin 4) (h : Fin 2) (e : Fin 64) : ln g ⟨64 * h.val + e.val, by omega⟩ = lane (hd g h) e :=
  Fin.ext (by simp only [ln, lane, hd]; omega)

theorem row_inj (p : Fin 2048) : Function.Injective (row p) := fun j j' h => Fin.ext (by
  have := congrArg Fin.val h; simp only [row] at this; omega)

/-- The first row of a query's window is the band's first row and the pattern's first row in it. -/
theorem window_row (p : Fin 2048) : min 24 ((rowOf p).val - 4) = min 21 (4 * (p.val / 256) - 4) + winRow (kindOf p).val ((inGroup p).val / 64) := by
  have hr : p.val / 64 = 4 * (p.val / 256) + p.val % 256 / 64 := by omega
  have hg : p.val / 256 < 8 := by omega
  simp only [rowOf, kindOf, winRow, inGroup]
  by_cases h0 : p.val / 256 = 0
  · simp [h0]; omega
  · by_cases h7 : p.val / 256 = 7
    · simp [h7]; omega
    · simp [h0, h7]; omega

/-- A query's own row is the band's first row and the pattern's own row in it. -/
theorem own_row (p : Fin 2048) : (rowOf p).val = min 21 (4 * (p.val / 256) - 4) + ownRow (kindOf p).val ((inGroup p).val / 64) := by
  have hr : p.val / 64 = 4 * (p.val / 256) + p.val % 256 / 64 := by omega
  have hg : p.val / 256 < 8 := by omega
  simp only [rowOf, kindOf, ownRow, inGroup]
  by_cases h0 : p.val / 256 = 0
  · simp [h0]; omega
  · by_cases h7 : p.val / 256 = 7
    · simp [h7]; omega
    · simp [h0, h7]; omega

theorem winRow_le (p : Fin 2048) : winRow (kindOf p).val ((inGroup p).val / 64) ≤ 3 := by
  have : (inGroup p).val / 64 ≤ 3 := by have := (inGroup p).isLt; omega
  unfold winRow; split_ifs <;> omega

section
variable {q k v : Vec Ideal S1x2048x128 .bf16} {kc vc : Vec Ideal S1x256x128 .bf16} {b : Vec Ideal S2x3x256x704 .f32}
  {x0 x1 x2 : FVec Ideal S16x2048x512 .bf16} {x3 x4 : FVec Ideal S16x256x512 .bf16} {x5 : FVec Ideal S8x15x31 .f32}
  (B : Fin 16) (g : Fin 4)
  (hq : ∀ p e, q (ix3 0 p e) = x0 (ix3 B p (ln g e))) (hk : ∀ p e, k (ix3 0 p e) = x1 (ix3 B p (ln g e)))
  (hv : ∀ p e, v (ix3 0 p e) = x2 (ix3 B p (ln g e)))
  (hkc : ∀ n e, kc (ix3 0 n e) = x3 (ix3 B n (ln g e))) (hvc : ∀ n e, vc (ix3 0 n e) = x4 (ix3 B n (ln g e)))
  (hb : ∀ h kd p j, b (ix4 h kd p j) = biasAt x5 (hd g h) kd p j)

include hq hk hb in
/-- A band score is the reference's score of that key. -/
theorem sloc_eq (h : Fin 2) (p : Fin 2048) (j : Fin 704) :
    sloc q k b h p j = scK x0 x1 x5 B (hd g h) (rowOf p) (colOf p) (row p j) := by
  unfold sloc
  rw [mask_sum h (fun e => q (ix3 0 p e) * k (ix3 0 (row p j) e)), hb]
  simp only [hq, hk, ln_head]
  have hw := window_row p
  have ho := own_row p
  have hr : (row p j).val / 64 = min 21 (4 * (p.val / 256) - 4) + j.val / 64 := by simp only [row]; omega
  have hc : (row p j).val % 64 = j.val % 64 := by simp only [row]; omega
  have hi : (inGroup p).val % 64 = (colOf p).val := by simp only [inGroup, colOf]; omega
  unfold biasAt scK sc
  simp only [hr, hc, hi, hw]
  by_cases w : (winRow (kindOf p).val ((inGroup p).val / 64) ≤ j.val / 64 ∧ j.val / 64 < winRow (kindOf p).val ((inGroup p).val / 64) + 8)
      ∧ (min 48 ((colOf p).val - 8) ≤ j.val % 64 ∧ j.val % 64 < min 48 ((colOf p).val - 8) + 16)
  · rw [if_pos w, if_pos ⟨⟨by omega, by omega⟩, w.2⟩]
    have t : ∀ r', tok ⟨min 21 (4 * (p.val / 256) - 4) + j.val / 64, r'⟩ ⟨j.val % 64, by omega⟩ = row p j := fun r' =>
      Fin.ext (by simp only [tok, row]; omega)
    simp only [tok_of, t]
    refine congrArg₂ (· + ·) rfl (congrArg x5 ?_)
    refine congrArg₂ (fun a b => ix3 (hd g h) a b) (Fin.ext ?_) rfl
    show min 14 (j.val / 64 + 7 - ownRow (kindOf p).val ((inGroup p).val / 64)) = min 14 (min 21 (4 * (p.val / 256) - 4) + j.val / 64 + 7 - (rowOf p).val)
    rw [ho]; omega
  · rw [if_neg w, if_neg (fun x => w ⟨⟨by omega, by omega⟩, x.2⟩)]
    unfold lowest Cert.NaRefIdeal.Plain.lowest
    rw [Cert.NaBand.lowest_eq, EReal.add_bot]

/-- A key outside the band has the reference's score −∞. -/
theorem outside (h : Fin 2) (p x : Fin 2048) (hx : ∀ j, row p j ≠ x) : scK x0 x1 x5 B (hd g h) (rowOf p) (colOf p) x = ⊥ := by
  unfold scK sc
  rw [if_neg, ← Cert.NaBand.lowest_eq]
  rintro ⟨⟨h1, h2⟩, -⟩
  have hw := window_row p
  have hl := winRow_le p
  rw [hw] at h1 h2
  simp only [] at h1 h2
  refine hx ⟨x.val - 64 * min 21 (4 * (p.val / 256) - 4), by omega⟩ (Fin.ext ?_)
  simp only [row]
  omega

include hq hkc in
theorem sctx_eq (h : Fin 2) (p : Fin 2048) (n : Fin 256) : sctx q kc h p n = sx x0 x3 B (hd g h) (rowOf p) (colOf p) n := by
  unfold sctx sx
  rw [mask_sum h (fun e => q (ix3 0 p e) * kc (ix3 0 n e))]
  simp only [hq, hkc, ln_head, tok_of]

include hq hk hkc hb in
theorem top_eq (h : Fin 2) (p : Fin 2048) : top q k kc b h p = most x0 x1 x3 x5 B (hd g h) (rowOf p) (colOf p) := by
  unfold top most lowest Cert.NaRefIdeal.Plain.lowest
  rw [Cert.NaBand.lowest_eq]
  refine congrArg₂ max ?_ ?_
  · exact Cert.NaBand.fold_band (ρ := row p) (fun j => sloc_eq B g hq hk hb h p j) (fun x hx => outside B g h p x hx)
  · simp only [sctx_eq B g hq hkc]

include hq hk hv hkc hvc hb in
/-- A head's output is the reference's. -/
theorem head_eq (h : Fin 2) (p : Fin 2048) (d : Fin 64) :
    head q k v kc vc b h p ⟨64 * h.val + d.val, by omega⟩
      = Cert.NaRefIdeal.Read.val_main_v117 (F := Ideal) x0 x1 x2 x3 x4 x5 (ix3 B p (lane (hd g h) d)) := by
  have e := Cert.NaRefIdeal.Plain.out x0 x1 x2 x3 x4 x5 B (hd g h) (rowOf p) (colOf p) d
  rw [tok_of] at e
  refine Eq.trans ?_ e.symm
  have ht := top_eq B g hq hk hkc hb h p
  have hs := fun j => sloc_eq B g hq hk hb h p j
  have hn := fun n => sctx_eq B g hq hkc h p n
  have ho := fun x hx => outside (x0 := x0) (x1 := x1) (x5 := x5) B g h p x hx
  unfold head G11 G10 G12
  refine congrArg₂ Ideal.div (congrArg₂ (· + ·) ?_ ?_) (congrArg₂ (· + ·) ?_ ?_)
  · show ∑ j : Fin 704, Ideal.exp (sloc q k b h p j - top q k kc b h p) * v (ix3 0 (row p j) ⟨64 * h.val + d.val, _⟩) = _
    simp only [hv, ln_head, ht]
    exact Cert.NaBand.sum_band (row_inj p) hs ho _ (fun x => x2 (ix3 B x (lane (hd g h) d)))
  · show ∑ n : Fin 256, Ideal.exp (sctx q kc h p n - top q k kc b h p) * vc (ix3 0 n ⟨64 * h.val + d.val, _⟩) = _
    simp only [hvc, ln_head, ht, hn]
  · show ∑ j : Fin 704, Ideal.exp (sloc q k b h p j - top q k kc b h p) = _
    rw [ht]
    exact Cert.NaBand.sum_band_one (row_inj p) hs ho _
  · show ∑ n : Fin 256, Ideal.exp (sctx q kc h p n - top q k kc b h p) = _
    simp only [ht, hn]

include hq hk hv hkc hvc hb in
/-- An entry of the output block is the reference's. -/
theorem out_eq (p : Fin 2048) (e : Fin 128) :
    OUT q k v kc vc b (ix3 0 p e) = Cert.NaRefIdeal.Read.val_main_v117 (F := Ideal) x0 x1 x2 x3 x4 x5 (ix3 B p (ln g e)) := by
  unfold OUT
  show Scalar.select (mask 0 (ix2 0 e)) (head q k v kc vc b 0 p e) (head q k v kc vc b 1 p e) = _
  rw [mask_first]
  by_cases he : e.val < 64
  · rw [if_pos he, pick_one]
    have ee : e = ⟨64 * (0 : Fin 2).val + (⟨e.val, he⟩ : Fin 64).val, by show 64 * 0 + e.val < 128; omega⟩ := Fin.ext (by show e.val = 64 * 0 + e.val; omega)
    rw [ee, ln_head]
    exact head_eq B g hq hk hv hkc hvc hb 0 p ⟨e.val, he⟩
  · rw [if_neg he, pick_zero]
    have ee : e = ⟨64 * (1 : Fin 2).val + (⟨e.val - 64, by omega⟩ : Fin 64).val, by show 64 * 1 + (e.val - 64) < 128; omega⟩ := Fin.ext (by show e.val = 64 * 1 + (e.val - 64); omega)
    rw [ee, ln_head]
    exact head_eq B g hq hk hv hkc hvc hb 1 p ⟨e.val - 64, by omega⟩

end

end Cert.NaIdeal.Out
-- ==== Proof.CtxValue.lean ====
/-
  The attention of the context tokens: the array the kernel leaves is the reference's.
-/
module

public import proofs.«01_k».proof.Proof.CtxRef
public import proofs.«01_k».proof.Proof.Gen.CtxIdeal.Value
public import proofs.«01_k».proof.Proof.NaJoin

set_option maxRecDepth 16384
set_option maxHeartbeats 1000000

@[expose] public section

noncomputable section

open Idealize.ShloMosaic Idealize.ShloMosaic.TcCoe Idealize.ShloMosaic.Tactic Idealize.SL.Sem
open Idealize.ShloMosaic.Pipeline (Dat)

namespace Cert.CtxIdeal.Out

open Cert.CtxIdeal Cert.CtxIdeal.Gen
open Cert.CtxRefIdeal.Plain (lane sc wt lowest)
open Cert.NaIdeal.Out (mask mask_sum mask_first pick_one pick_zero hd ln)

theorem ln_head (g : Fin 4) (h : Fin 2) (e : Fin 64) : ln g ⟨64 * h.val + e.val, by omega⟩ = lane (hd g h) e :=
  Fin.ext (by simp only [ln, lane, hd]; omega)

/-! ### One grid point -/

section
variable (q k v : Vec Ideal S1x256x128 .bf16)

/-- The score of query `p` against key `n`. -/
def score (h : Fin 2) (p n : Fin 256) : EReal :=
  ∑ e : Fin 128, Scalar.select (mask h (ix2 0 e)) (q (ix3 0 p e) * k (ix3 0 n e)) 0

/-- The weight of key `n`, not yet divided. -/
def weight (h : Fin 2) (p n : Fin 256) : EReal :=
  Ideal.exp (score q k h p n - Finset.fold max lowest (fun n => score q k h p n) Finset.univ)

/-- One head's output. -/
def head (h : Fin 2) (p : Fin 256) (d : Fin 128) : EReal :=
  Ideal.div (∑ n : Fin 256, weight q k h p n * v (ix3 0 n d)) (∑ n : Fin 256, weight q k h p n)

theorem first (p : Fin 256) (d : Fin 128) : k0_pay6 (F := Ideal) q k v (ix2 p d) = head q k v 0 p d := by
  have e : k0_pay2 = mask 0 := rfl
  unfold k0_pay6 head weight score
  rw [e]
  generalize mask 0 = m
  pointwise [k0_pay5, k0_pay4, k0_pay3]

theorem second (p n : Fin 256) : k0_pay7 (F := Ideal) q k (ix2 p n) = weight q k 1 p n := by
  have e : cmpi .sge (iota .tc S1x128 32 [1] iota_S1x128_d1_w32) (broadcast S1x128 64#32) = mask 1 := rfl
  unfold k0_pay7 weight score
  dsimp only
  rw [e]
  generalize mask 1 = m
  pointwise [k0_pay4, k0_pay3]

theorem stored (p : Fin 256) (d : Fin 128) :
    k0_pay1 (F := Ideal) k0_pay2 (k0_pay5 v) (k0_pay6 q k v) (k0_pay7 q k) (k0_pay8 q k) (constant S256x128 .f32 0x00000000#32) (ix3 0 p d)
      = Scalar.select (mask 0 (ix2 0 d)) (head q k v 0 p d) (head q k v 1 p d) := by
  have h0 := first q k v p d
  have h1 := fun n => second q k p n
  generalize k0_pay6 (F := Ideal) q k v = y at h0 ⊢
  unfold k0_pay8
  generalize k0_pay7 (F := Ideal) q k = z at h1 ⊢
  pointwise [k0_pay1, k0_pay5]
  simp only [h0, h1]
  rfl

variable {q k v} {x0 x1 x2 : FVec Ideal S16x256x512 .bf16} (B : Fin 16) (g : Fin 4)
  (hq : ∀ p e, q (ix3 0 p e) = x0 (ix3 B p (ln g e))) (hk : ∀ p e, k (ix3 0 p e) = x1 (ix3 B p (ln g e)))
  (hv : ∀ p e, v (ix3 0 p e) = x2 (ix3 B p (ln g e)))

include hq hk in
theorem weight_eq (h : Fin 2) (p n : Fin 256) : weight q k h p n = wt x0 x1 B (hd g h) p n := by
  have s : ∀ n, score q k h p n = sc x0 x1 B (hd g h) p n := fun n => by
    unfold score sc
    rw [mask_sum h (fun e => q (ix3 0 p e) * k (ix3 0 n e))]
    simp only [hq, hk, ln_head]
  unfold weight wt
  simp only [s]

include hq hk hv in
/-- A head's output is the reference's. -/
theorem head_eq (h : Fin 2) (p : Fin 256) (d : Fin 64) :
    head q k v h p ⟨64 * h.val + d.val, by omega⟩ = Cert.CtxRefIdeal.Read.val_main_v22 (F := Ideal) x0 x1 x2 (ix3 B p (lane (hd g h) d)) := by
  refine Eq.trans ?_ (Cert.CtxRefIdeal.Plain.out x0 x1 x2 B (hd g h) p d).symm
  unfold head
  simp only [weight_eq B g hq hk, hv, ln_head]

include hq hk hv in
/-- An entry of the output block is the reference's. -/
theorem out_eq (p : Fin 256) (e : Fin 128) :
    Scalar.select (mask 0 (ix2 0 e)) (head q k v 0 p e) (head q k v 1 p e)
      = Cert.CtxRefIdeal.Read.val_main_v22 (F := Ideal) x0 x1 x2 (ix3 B p (ln g e)) := by
  rw [mask_first]
  by_cases he : e.val < 64
  · rw [if_pos he, pick_one]
    have ee : e = ⟨64 * (0 : Fin 2).val + (⟨e.val, he⟩ : Fin 64).val, by show 64 * 0 + e.val < 128; omega⟩ := Fin.ext (by show e.val = 64 * 0 + e.val; omega)
    rw [ee, ln_head]
    exact head_eq B g hq hk hv 0 p ⟨e.val, he⟩
  · rw [if_neg he, pick_zero]
    have ee : e = ⟨64 * (1 : Fin 2).val + (⟨e.val - 64, by omega⟩ : Fin 64).val, by show 64 * 1 + (e.val - 64) < 128; omega⟩ := Fin.ext (by show e.val = 64 * 1 + (e.val - 64); omega)
    rw [ee, ln_head]
    exact head_eq B g hq hk hv 1 p ⟨e.val - 64, by omega⟩

end

/-! ### The whole array -/

variable (m : (ℓ : Loc nD τ sig) → Buf (Elt Ideal) ℓ)

/-- Where every window's block sits at grid point `t`: batch `t / 4`, pair of heads `t % 4`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem points : cfg0.N = 64 := by decide +kernel

/-- The batch and the pair of heads of a grid point. -/
def bt (t : Fin cfg0.N) : Fin 16 := ⟨t.val / 4, by have := t.isLt; have := points; omega⟩
def pr (t : Fin cfg0.N) : Fin 4 := ⟨t.val % 4, by omega⟩

theorem blk0 (c : Dev nD) (t : Fin cfg0.N) (p : Fin 256) (e : Fin 128) :
    iblk m c 0 t (ix3 0 p e) = m ((c : Thread nD τ).loc main_arg0) (ix3 (bt t) p (ln (pr t) e)) := by
  show V m c main_arg0 ((win0_0.blk t).view.emb (ix3 0 p e)) = _
  have he : (win0_0.blk t).view.emb (ix3 0 p e) = (ix3 (bt t) p (ln (pr t) e) : S16x256x512.Idx) := by blk_ext [idx t, bt, pr, ln]
  rw [he, V_main_arg0]

theorem blk1 (c : Dev nD) (t : Fin cfg0.N) (p : Fin 256) (e : Fin 128) :
    iblk m c 1 t (ix3 0 p e) = m ((c : Thread nD τ).loc main_arg1) (ix3 (bt t) p (ln (pr t) e)) := by
  show V m c main_arg1 ((win0_1.blk t).view.emb (ix3 0 p e)) = _
  have he : (win0_1.blk t).view.emb (ix3 0 p e) = (ix3 (bt t) p (ln (pr t) e) : S16x256x512.Idx) := by blk_ext [idx t, bt, pr, ln]
  rw [he, V_main_arg1]

theorem blk2 (c : Dev nD) (t : Fin cfg0.N) (p : Fin 256) (e : Fin 128) :
    iblk m c 2 t (ix3 0 p e) = m ((c : Thread nD τ).loc main_arg2) (ix3 (bt t) p (ln (pr t) e)) := by
  show V m c main_arg2 ((win0_2.blk t).view.emb (ix3 0 p e)) = _
  have he : (win0_2.blk t).view.emb (ix3 0 p e) = (ix3 (bt t) p (ln (pr t) e) : S16x256x512.Idx) := by blk_ext [idx t, bt, pr, ln]
  rw [he, V_main_arg2]

/-- The array of the attention's output after the run. -/
theorem final (c : Dev nD) : (dats m 0 c).arrAt 3 (cfgs 0).N
    = Cert.CtxRefIdeal.Read.val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨p, e, hy⟩ : ∃ (p : Fin 256) (e : Fin 128), y = ix3 0 p e := ⟨y 1, y 2, by
    refine funext fun a => Fin.ext ?_
    match a with
    | ⟨0, _⟩ => have : (y 0).val < 1 := (y 0).isLt; show (y 0).val = 0; omega
    | ⟨1, _⟩ => rfl
    | ⟨2, _⟩ => rfl⟩
  subst hy
  have he : (win0_3.blk t).view.emb (ix3 0 p e) = (ix3 (bt t) p (ln (pr t) e) : S16x256x512.Idx) := by blk_ext [idx t, bt, pr, ln]
  refine (stored _ _ _ p e).trans ((out_eq (bt t) (pr t) (blk0 m c t) (blk1 m c t) (blk2 m c t) p e).trans ?_)
  exact congrArg _ he.symm

end Cert.CtxIdeal.Out
-- ==== Proof.PeerSlab.lean ====
/-
  The experts of the latent tokens: one slab of 128 experts, gated and activated, as one formula over the slabs.
-/
module

public import proofs.«01_k».proof.Proof.Gen.PeerIdeal.Skeleton
public import Idealize.ShloMosaic.Lib.Pipeline.ValueKit

set_option maxRecDepth 16384
set_option maxHeartbeats 1000000

@[expose] public section

noncomputable section

open Idealize.ShloMosaic Idealize.ShloMosaic.TcCoe Idealize.SL.Sem

namespace Cert.PeerIdeal.Out

open Cert.PeerIdeal Cert.PeerIdeal.Gen

/-- The gelu the kernel computes, of a whole slab. -/
def geluv (h : FVec Ideal S128x512 .bf16) : FVec Ideal S128x512 .bf16 :=
  mulf (mulf (broadcast S128x512 (Scalar.ofBits .bf16 0x3F00#16)) h)
    (addf (broadcast S128x512 (Scalar.ofBits .bf16 0x3F80#16))
      (tanh (mulf (broadcast S128x512 (Named.named κ "gelu_scale" 0x3F4C#16))
        (addf h (mulf (broadcast S128x512 (Named.named κ "gelu_cubic" 0x3D37#16)) (mulf (mulf h h) h))))))

/-- The gelu of one value. -/
def gelu (h : EReal) : EReal := geluv (fun _ => h) (ix2 0 0)

/-- One head's term of the gate: the weight of the second key when its rank is under the limit, times the first key's. -/
def tmv (l e r b : FVec Ideal S128x512 .bf16) : FVec Ideal S128x512 .bf16 := mulf (select (cmpf .olt r l) b k0_pay5) e

/-- One head's term of the gate, of one expert and token. -/
def tm (l e r b : EReal) : EReal := tmv (fun _ => l) (fun _ => e) (fun _ => r) (fun _ => b) (ix2 0 0)

theorem geluv_apply (h : FVec Ideal S128x512 .bf16) (i : S128x512.Idx) : geluv h i = gelu (h i) := rfl

theorem tmv_apply (l e r b : FVec Ideal S128x512 .bf16) (i : S128x512.Idx) : tmv l e r b i = tm (l i) (e i) (r i) (b i) := rfl

theorem mulf_at (a b : FVec Ideal S128x512 .bf16) (i : S128x512.Idx) : (mulf a b : FVec Ideal S128x512 .bf16) i = (a i * b i : EReal) := rfl

theorem addf_at (a b : FVec Ideal S128x512 .bf16) (i : S128x512.Idx) : (addf a b : FVec Ideal S128x512 .bf16) i = (a i + b i : EReal) := rfl

theorem truncf_at (a : FVec Ideal S128x512 .f32) (i : S128x512.Idx) : (truncf .bf16 a bitsLt_bf16_f32 : FVec Ideal S128x512 .bf16) i = (a i : EReal) := rfl

/-- A row of a table over the first keys, for all 128 second keys. -/
def spread (v : Vec Ideal S1x1x512 .f32) : FVec Ideal S128x512 .bf16 :=
  truncf .bf16 (broadcastTo S128x512 (shapeCast S1x512 (shapeCast S1x512 v shapeCasts_S1x1x512_S1x512) shapeCasts_S1x512_S1x512) broadcasts_S1x512_S128x512) bitsLt_bf16_f32

theorem spread_apply (v : Vec Ideal S1x1x512 .f32) (p : Fin 128) (q : Fin 512) :
    spread v (ix2 p q) = v (ix3 (0 : Fin 1) (0 : Fin 1) q) := by
  pointwise [spread]

/-- One head's tile of a table over the second keys. -/
def flat (v : Vec Ideal S1x128x512 .bf16) : FVec Ideal S128x512 .bf16 := shapeCast S128x512 v shapeCasts_S1x128x512_S128x512

theorem flat_apply (v : Vec Ideal S1x128x512 .bf16) (p : Fin 128) (q : Fin 512) :
    flat v (ix2 p q) = v (ix3 (0 : Fin 1) p q) := by
  pointwise [flat]

theorem row_inb (h : Fin 8) (j : Fin 16) : ∀ a, (![h.val, j.val, 0] : Fin 3 → ℕ) a + S1x1x512.size a ≤ S8x16x512.size a := by
  intro a; have := h.isLt; have := j.isLt
  fin_cases a <;> simp <;> omega

theorem col_inb (h : Fin 8) : ∀ a, (![h.val, 0, 0] : Fin 3 → ℕ) a + S1x128x512.size a ≤ S8x128x512.size a := by
  intro a; have := h.isLt
  fin_cases a <;> simp <;> omega

/-- Head `h`'s row `j` of a table over the first keys. -/
def row (x : Vec Ideal S8x16x512 .f32) (h : Fin 8) (j : Fin 16) : Vec Ideal S1x1x512 .f32 :=
  View.ld (Val := Elt Ideal) x (Rect.unit (s := S8x16x512) ![h.val, j.val, 0] S1x1x512.size (row_inb h j))

theorem row_apply (x : Vec Ideal S8x16x512 .f32) (h : Fin 8) (j : Fin 16) (q : Fin 512) :
    row x h j (ix3 (0 : Fin 1) (0 : Fin 1) q) = x (ix3 h j q) :=
  View.ld_unit_apply_of _ _ _ _ _ _ fun a => by fin_cases a <;> simp [ix3]

/-- Head `h`'s tile of a table over the second keys. -/
def col (x : Vec Ideal S8x128x512 .bf16) (h : Fin 8) : Vec Ideal S1x128x512 .bf16 :=
  View.ld (Val := Elt Ideal) x (Rect.unit (s := S8x128x512) ![h.val, 0, 0] S1x128x512.size (col_inb h))

theorem col_apply (x : Vec Ideal S8x128x512 .bf16) (h : Fin 8) (p : Fin 128) (q : Fin 512) :
    col x h (ix3 (0 : Fin 1) p q) = x (ix3 h p q) :=
  View.ld_unit_apply_of _ _ _ _ _ _ fun a => by fin_cases a <;> simp [ix3]

variable (x0 : Vec Ideal S1024x512 .bf16) (x1 : Vec Ideal S2048x1024 .bf16) (x3 x4 : Vec Ideal S8x16x512 .f32) (x5 x6 : Vec Ideal S8x128x512 .bf16)

/-- One head's term, of slab `j`. -/
def termv (h : Fin 8) (j : Fin 16) : FVec Ideal S128x512 .bf16 :=
  tmv (spread (row x3 h j)) (spread (row x4 h j)) (flat (col x5 h)) (flat (col x6 h))

/-- One head's term at an expert and token. -/
def term (h : Fin 8) (j : Fin 16) (p : Fin 128) (q : Fin 512) : EReal :=
  tm (x3 (ix3 h j q)) (x4 (ix3 h j q)) (x5 (ix3 h p q)) (x6 (ix3 h p q))

theorem termv_apply (h : Fin 8) (j : Fin 16) (p : Fin 128) (q : Fin 512) :
    termv x3 x4 x5 x6 h j (ix2 p q) = term x3 x4 x5 x6 h j p q := by
  unfold termv
  rw [tmv_apply, spread_apply, spread_apply, flat_apply, flat_apply, row_apply, row_apply, col_apply, col_apply]
  rfl

/-- The gate of slab `j`: the heads' terms added in order. -/
def gatev (j : Fin 16) : FVec Ideal S128x512 .bf16 :=
  addf (addf (addf (addf (addf (addf (addf (termv x3 x4 x5 x6 0 j) (termv x3 x4 x5 x6 1 j)) (termv x3 x4 x5 x6 2 j)) (termv x3 x4 x5 x6 3 j))
    (termv x3 x4 x5 x6 4 j)) (termv x3 x4 x5 x6 5 j)) (termv x3 x4 x5 x6 6 j)) (termv x3 x4 x5 x6 7 j)

/-- The gate of one expert and token. -/
def gate (j : Fin 16) (p : Fin 128) (q : Fin 512) : EReal := ∑ h : Fin 8, term x3 x4 x5 x6 h j p q

/-- What slab `j` holds. -/
def slabv (j : Fin 16) (o : ℕ) (hs : S2048x512.Slices ![o, 0] S128x512) : FVec Ideal S128x512 .bf16 :=
  shapeCast S128x512 (mulf (geluv (truncf .bf16 (extractStridedSlice S128x512 ![o, 0] (k0_pay4 x1 x0) hs) bitsLt_bf16_f32)) (gatev x3 x4 x5 x6 j)) shapeCasts_S128x512_S128x512

/-- One gated activation. -/
def zat (j : Fin 16) (p : Fin 128) (q : Fin 512) : EReal :=
  gelu (k0_pay4 x1 x0 (ix2 (⟨128 * j.val + p.val, by omega⟩ : Fin 2048) q)) * gate x3 x4 x5 x6 j p q

theorem slabv_apply (j : Fin 16) (o : ℕ) (ho : o = 128 * j.val) (hs) (p : Fin 128) (q : Fin 512) :
    slabv x0 x1 x3 x4 x5 x6 j o hs (ix2 p q) = zat x0 x1 x3 x4 x5 x6 j p q := by
  subst ho
  unfold slabv zat gate
  rw [shapeCast_self, mulf_at, geluv_apply, truncf_at, Fin.sum_univ_eight]
  have e : ∀ H : FVec Ideal S2048x512 .f32, extractStridedSlice S128x512 ![128 * j.val, 0] H hs (ix2 p q) = H (ix2 (⟨128 * j.val + p.val, by omega⟩ : Fin 2048) q) := by
    intro H
    refine congrArg H ?_
    funext a; apply Fin.ext
    fin_cases a <;> simp [ix2]
  have g : gatev x3 x4 x5 x6 j (ix2 p q) = (term x3 x4 x5 x6 0 j p q + term x3 x4 x5 x6 1 j p q + term x3 x4 x5 x6 2 j p q + term x3 x4 x5 x6 3 j p q
      + term x3 x4 x5 x6 4 j p q + term x3 x4 x5 x6 5 j p q + term x3 x4 x5 x6 6 j p q + term x3 x4 x5 x6 7 j p q : EReal) := by
    unfold gatev
    simp only [addf_at, termv_apply]
  rw [e, g]

/-- The scratch of the gated activations, all 16 slabs. -/
def zbuf : Vec Ideal S2048x512 .bf16 := fun y =>
  zat x0 x1 x3 x4 x5 x6 ⟨(y 0).val / 128, by have : (y 0).val < 2048 := (y 0).isLt; omega⟩ ⟨(y 0).val % 128, by omega⟩ (y 1)

/-- A slab's place in the scratch. -/
theorem tile (j : Fin 16) (o : ℕ) (ho : o = 128 * j.val) (hs) (w : FVec Ideal S128x512 .bf16)
    (hw : w = slabv x0 x1 x3 x4 x5 x6 j o hs) (y : S2048x512.Idx) :
    View.TileAt y ![o, 0] S128x512.size w (zbuf x0 x1 x3 x4 x5 x6 y) := by
  intro x hx
  obtain ⟨p, q, rfl⟩ : ∃ (p : Fin 128) (q : Fin 512), x = ix2 p q := ⟨x 0, x 1, eq_ix2 x⟩
  rw [hw, slabv_apply x0 x1 x3 x4 x5 x6 j o ho]
  have h0 : (y 0).val = o + p.val := hx 0
  have h1 : (y 1).val = 0 + q.val := hx 1
  have hp := p.isLt
  unfold zbuf
  have e0 : (⟨(y 0).val / 128, by have : (y 0).val < 2048 := (y 0).isLt; omega⟩ : Fin 16) = j := Fin.ext (by show (y 0).val / 128 = _; omega)
  have e1 : (⟨(y 0).val % 128, by omega⟩ : Fin 128) = p := Fin.ext (by show (y 0).val % 128 = _; omega)
  have e2 : (y 1 : Fin 512) = q := Fin.ext (by rw [h1]; omega)
  rw [e0, e1]
  exact congrArg _ e2.symm

/-- The 16 slabs written, read back whole. -/
theorem zread {sig : RefSig} {κ : Kind} {sp : Space} (v : View sig κ sp S2048x512 .bf16) (inb) {w0 w1 w2 w3 w4 w5 w6 w7 w8 w9 w10 w11 w12 w13 w14 w15 : FVec Ideal S128x512 .bf16}
    (h0 : w0 = slabv x0 x1 x3 x4 x5 x6 0 0 (by decide))
    (h1 : w1 = slabv x0 x1 x3 x4 x5 x6 1 128 (by decide))
    (h2 : w2 = slabv x0 x1 x3 x4 x5 x6 2 256 (by decide))
    (h3 : w3 = slabv x0 x1 x3 x4 x5 x6 3 384 (by decide))
    (h4 : w4 = slabv x0 x1 x3 x4 x5 x6 4 512 (by decide))
    (h5 : w5 = slabv x0 x1 x3 x4 x5 x6 5 640 (by decide))
    (h6 : w6 = slabv x0 x1 x3 x4 x5 x6 6 768 (by decide))
    (h7 : w7 = slabv x0 x1 x3 x4 x5 x6 7 896 (by decide))
    (h8 : w8 = slabv x0 x1 x3 x4 x5 x6 8 1024 (by decide))
    (h9 : w9 = slabv x0 x1 x3 x4 x5 x6 9 1152 (by decide))
    (h10 : w10 = slabv x0 x1 x3 x4 x5 x6 10 1280 (by decide))
    (h11 : w11 = slabv x0 x1 x3 x4 x5 x6 11 1408 (by decide))
    (h12 : w12 = slabv x0 x1 x3 x4 x5 x6 12 1536 (by decide))
    (h13 : w13 = slabv x0 x1 x3 x4 x5 x6 13 1664 (by decide))
    (h14 : w14 = slabv x0 x1 x3 x4 x5 x6 14 1792 (by decide))
    (h15 : w15 = slabv x0 x1 x3 x4 x5 x6 15 1920 (by decide))
    (i0 i1 i2 i3 i4 i5 i6 i7 i8 i9 i10 i11 i12 i13 i14 i15) :
    v.readCov (Val := Elt Ideal) [⟨Rect.unit (s := S2048x512) ![1920, 0] S128x512.size i15, w15⟩,
      ⟨Rect.unit (s := S2048x512) ![1792, 0] S128x512.size i14, w14⟩,
      ⟨Rect.unit (s := S2048x512) ![1664, 0] S128x512.size i13, w13⟩,
      ⟨Rect.unit (s := S2048x512) ![1536, 0] S128x512.size i12, w12⟩,
      ⟨Rect.unit (s := S2048x512) ![1408, 0] S128x512.size i11, w11⟩,
      ⟨Rect.unit (s := S2048x512) ![1280, 0] S128x512.size i10, w10⟩,
      ⟨Rect.unit (s := S2048x512) ![1152, 0] S128x512.size i9, w9⟩,
      ⟨Rect.unit (s := S2048x512) ![1024, 0] S128x512.size i8, w8⟩,
      ⟨Rect.unit (s := S2048x512) ![896, 0] S128x512.size i7, w7⟩,
      ⟨Rect.unit (s := S2048x512) ![768, 0] S128x512.size i6, w6⟩,
      ⟨Rect.unit (s := S2048x512) ![640, 0] S128x512.size i5, w5⟩,
      ⟨Rect.unit (s := S2048x512) ![512, 0] S128x512.size i4, w4⟩,
      ⟨Rect.unit (s := S2048x512) ![384, 0] S128x512.size i3, w3⟩,
      ⟨Rect.unit (s := S2048x512) ![256, 0] S128x512.size i2, w2⟩,
      ⟨Rect.unit (s := S2048x512) ![128, 0] S128x512.size i1, w1⟩,
      ⟨Rect.unit (s := S2048x512) ![0, 0] S128x512.size i0, w0⟩]
      (Rect.unit (s := S2048x512) ![0, 0] S2048x512.size inb).toLoadRect = zbuf x0 x1 x3 x4 x5 x6 := by
  refine (View.readCov_eq_canon_ld v _ (Rect.unit (s := S2048x512) ![0, 0] S2048x512.size inb) (View.cover_of_tiled (s := S2048x512) _ S128x512.size (by sl_kernel_rfl))).trans ?_
  refine (View.ld_unit_zero (S := S2048x512) (show (![0, 0] : Fin 2 → Nat) = fun _ => 0 from funext fun a => by fin_cases a <;> rfl) inb _).trans ?_
  funext y
  refine View.canon_eq_of_allAt _ y _ (View.cover_of_tiled (s := S2048x512) _ S128x512.size (by sl_kernel_rfl) y) ?_
  refine View.allAt_cons_unit _ _ _ _ _ (tile x0 x1 x3 x4 x5 x6 15 1920 (by decide) _ _ h15 y) ?_
  refine View.allAt_cons_unit _ _ _ _ _ (tile x0 x1 x3 x4 x5 x6 14 1792 (by decide) _ _ h14 y) ?_
  refine View.allAt_cons_unit _ _ _ _ _ (tile x0 x1 x3 x4 x5 x6 13 1664 (by decide) _ _ h13 y) ?_
  refine View.allAt_cons_unit _ _ _ _ _ (tile x0 x1 x3 x4 x5 x6 12 1536 (by decide) _ _ h12 y) ?_
  refine View.allAt_cons_unit _ _ _ _ _ (tile x0 x1 x3 x4 x5 x6 11 1408 (by decide) _ _ h11 y) ?_
  refine View.allAt_cons_unit _ _ _ _ _ (tile x0 x1 x3 x4 x5 x6 10 1280 (by decide) _ _ h10 y) ?_
  refine View.allAt_cons_unit _ _ _ _ _ (tile x0 x1 x3 x4 x5 x6 9 1152 (by decide) _ _ h9 y) ?_
  refine View.allAt_cons_unit _ _ _ _ _ (tile x0 x1 x3 x4 x5 x6 8 1024 (by decide) _ _ h8 y) ?_
  refine View.allAt_cons_unit _ _ _ _ _ (tile x0 x1 x3 x4 x5 x6 7 896 (by decide) _ _ h7 y) ?_
  refine View.allAt_cons_unit _ _ _ _ _ (tile x0 x1 x3 x4 x5 x6 6 768 (by decide) _ _ h6 y) ?_
  refine View.allAt_cons_unit _ _ _ _ _ (tile x0 x1 x3 x4 x5 x6 5 640 (by decide) _ _ h5 y) ?_
  refine View.allAt_cons_unit _ _ _ _ _ (tile x0 x1 x3 x4 x5 x6 4 512 (by decide) _ _ h4 y) ?_
  refine View.allAt_cons_unit _ _ _ _ _ (tile x0 x1 x3 x4 x5 x6 3 384 (by decide) _ _ h3 y) ?_
  refine View.allAt_cons_unit _ _ _ _ _ (tile x0 x1 x3 x4 x5 x6 2 256 (by decide) _ _ h2 y) ?_
  refine View.allAt_cons_unit _ _ _ _ _ (tile x0 x1 x3 x4 x5 x6 1 128 (by decide) _ _ h1 y) ?_
  refine View.allAt_cons_unit _ _ _ _ _ (tile x0 x1 x3 x4 x5 x6 0 0 (by decide) _ _ h0 y) ?_
  exact View.allAt_nil _ _

end Cert.PeerIdeal.Out
-- ==== Proof.PeerPoint.lean ====
/-
  The experts of the latent tokens: what one grid point leaves in the carried sum and in the output block.
-/
module

public import proofs.«01_k».proof.Proof.PeerSlab
public import proofs.«01_k».proof.Proof.Gen.PeerIdeal.Value

set_option maxRecDepth 65536
set_option maxHeartbeats 4000000

@[expose] public section

noncomputable section

open Idealize.ShloMosaic Idealize.ShloMosaic.TcCoe Idealize.SL.Sem

namespace Cert.PeerIdeal.Out

open Cert.PeerIdeal Cert.PeerIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- A block of experts in between adds to the carried sum. -/
theorem sout_B (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1024x512 .f32) (harg14 : arg14.IsWhole) (arg15 : Memref sig .tc .vmem S2048x512 .bf16) (harg15 : arg15.IsWhole) (hc0 : ¬cond0_0 i) (hc1 : ¬cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1x1024 .f32) (x9 : Vec Ideal S1x1024 .f32) (x10 : Vec Ideal S1x1024 .f32) (xs0 : Vec Ideal S1024x512 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = k0_pay1 xs0 x2 (zbuf x0 x1 x3 x4 x5 x6) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg14.read_unread, View.ld_unit_zero (S := S1024x512) hz2, View.ld_unit_zero (S := S2048x1024) hz2,
    View.ld_unit_zero (S := S1024x2048) hz2]
  refine congrArg (k0_pay1 xs0 x2) ?_
  apply zread
  all_goals rfl

/-- The first block of experts starts the sum from zero. -/
theorem sout_A (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1024x512 .f32) (harg14 : arg14.IsWhole) (arg15 : Memref sig .tc .vmem S2048x512 .bf16) (harg15 : arg15.IsWhole) (hc0 : cond0_0 i) (hc1 : ¬cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1x1024 .f32) (x9 : Vec Ideal S1x1024 .f32) (x10 : Vec Ideal S1x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay1 k0_pay3 x2 (zbuf x0 x1 x3 x4 x5 x6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1024x512) hz2, View.readCov_unit_zero (S := S1024x512) _ hz2]
  simp only [View.readAt_eq_ld, harg2.read_unread, harg3.read_unread, harg4.read_unread, harg5.read_unread, harg6.read_unread,
    harg7.read_unread, harg8.read_unread, harg14.read_unread, View.ld_unit_zero (S := S1024x512) hz2, View.ld_unit_zero (S := S2048x1024) hz2,
    View.ld_unit_zero (S := S1024x2048) hz2]
  refine congrArg (k0_pay1 k0_pay3 x2) ?_
  apply zread
  all_goals rfl

/-- The last block of experts adds to the carried sum. -/
theorem sout_C (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1024x512 .f32) (harg14 : arg14.IsWhole) (arg15 : Memref sig .tc .vmem S2048x512 .bf16) (harg15 : arg15.IsWhole) (hc0 : ¬cond0_0 i) (hc1 : cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1x1024 .f32) (x9 : Vec Ideal S1x1024 .f32) (x10 : Vec Ideal S1x1024 .f32) (xs0 : Vec Ideal S1024x512 .f32) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = k0_pay1 xs0 x2 (zbuf x0 x1 x3 x4 x5 x6) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg14.read_unread, View.ld_unit_zero (S := S1024x512) hz2, View.ld_unit_zero (S := S2048x1024) hz2,
    View.ld_unit_zero (S := S1024x2048) hz2]
  refine congrArg (k0_pay1 xs0 x2) ?_
  apply zread
  all_goals rfl

/-- The last block of experts stores the normalised output. -/
theorem out_C (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1024x512 .f32) (harg14 : arg14.IsWhole) (arg15 : Memref sig .tc .vmem S2048x512 .bf16) (harg15 : arg15.IsWhole) (hc0 : ¬cond0_0 i) (hc1 : cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1x1024 .f32) (x9 : Vec Ideal S1x1024 .f32) (x10 : Vec Ideal S1x1024 .f32) (xs0 : Vec Ideal S1024x512 .f32) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = k0_pay2 (k0_pay1 xs0 x2 (zbuf x0 x1 x3 x4 x5 x6)) x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  rw [View.canon_unit_zero hz2, View.readCov_unit_zero (S := S1024x512) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg14.read_unread,
    View.ld_unit_zero (S := S1024x512) hz2, View.ld_unit_zero (S := S2048x1024) hz2,
    View.ld_unit_zero (S := S1024x2048) hz2, View.ld_unit_zero (S := S512x1024) hz2, View.ld_unit_zero (S := S1x1024) hz2, View.ld_unit_zero (S := S1x1x1024) hz3]
  refine congrArg (fun z => k0_pay2 (k0_pay1 xs0 x2 z) x7 x8 x9 x10) ?_
  apply zread
  all_goals rfl

end Cert.PeerIdeal.Out
-- ==== Proof.PeerRef.lean ====
/-
  The experts of the latent tokens: the reference's gate, activation and sum, index by index, and the layer norm of a row.
-/
module

public import proofs.«01_k».proof.Proof.PeerSlab
public import proofs.«01_k».proof.Proof.Gen.PeerRefIdeal.Read

set_option maxRecDepth 65536
set_option maxHeartbeats 4000000

@[expose] public section

noncomputable section

open Idealize.ShloMosaic Idealize.ShloMosaic.TcCoe Idealize.SL.Sem

namespace Cert.PeerIdeal.Out

open Cert.PeerIdeal Cert.PeerIdeal.Gen
open Cert.PeerRefIdeal.Read

/-! ### The constants of the activation -/

theorem half_eq : (Scalar.ofBits .bf16 0x3F00#16 : Ideal .bf16) = (Scalar.ofBits .f32 0x3F000000#32 : Ideal .f32) := by
  show Ideal.ofBits .bf16 0x3F00#16 = Ideal.ofBits .f32 0x3F000000#32
  simp [Ideal.ofBits, Ideal.ieee]
  rw [← EReal.coe_mul, ← EReal.coe_mul]
  norm_num

theorem one_eq : (Scalar.ofBits .bf16 0x3F80#16 : Ideal .bf16) = (Scalar.ofBits .f32 0x3F800000#32 : Ideal .f32) := by
  show Ideal.ofBits .bf16 0x3F80#16 = Ideal.ofBits .f32 0x3F800000#32
  simp [Ideal.ofBits, Ideal.ieee]
  rw [← EReal.coe_mul, ← EReal.coe_mul]
  norm_num

theorem scale_eq : (Named.named κ "gelu_scale" 0x3F4C#16 : Ideal .bf16) = (Scalar.ofBits .f32 0x3F4C422A#32 : Ideal .f32) := by
  show ((6693141 / 8388608 : ℝ) : EReal) = Ideal.ofBits .f32 0x3F4C422A#32
  simp [Ideal.ofBits, Ideal.ieee]
  rw [← EReal.coe_mul]
  norm_num

theorem cubic_eq : (Named.named κ "gelu_cubic" 0x3D37#16 : Ideal .bf16) = (Scalar.ofBits .f32 0x3D372713#32 : Ideal .f32) := by
  show ((12003091 / 268435456 : ℝ) : EReal) = Ideal.ofBits .f32 0x3D372713#32
  simp [Ideal.ofBits, Ideal.ieee]
  rw [← EReal.coe_mul]
  norm_num

/-- The activation, in the order the reference multiplies it. -/
theorem gelu_eq (h : EReal) : gelu h
    = h * ((Scalar.ofBits .f32 0x3F000000#32 : Ideal .f32) * ((Scalar.ofBits .f32 0x3F800000#32 : Ideal .f32)
        + Ideal.tanh ((Scalar.ofBits .f32 0x3F4C422A#32 : Ideal .f32) * (h + (Scalar.ofBits .f32 0x3D372713#32 : Ideal .f32) * ((h * h) * h))))) := by
  rw [← half_eq, ← one_eq, ← scale_eq, ← cubic_eq, ← mul_assoc, mul_comm h]
  rfl

variable (x0 : FVec Ideal S1024x32768 .bf16) (x1 x2 : FVec Ideal Cert.PeerRefIdeal.S16384x1024 .f32) (x3 x4 : FVec Ideal S8x128x32768 .f32)
  (x5 x6 : FVec Ideal S8x128x32768 .bf16)

theorem zero_eq : Ideal.ofBits .f32 0x00000000#32 = 0 := by
  simp [Ideal.ofBits, Ideal.ieee]

theorem ref_up (K : Fin 16384) (n : Fin 32768) :
    val_main_v17 (F := Ideal) x0 x1 (ix2 K n) = ∑ d : Fin 1024, x1 (ix2 K d) * x0 (ix2 d n) := by
  pointwise [val_main_v17, val_main_v16, val_main_v1, val_main_v0]

theorem ref_act (K : Fin 16384) (n : Fin 32768) :
    val_main_v30 (F := Ideal) x0 x1 (ix2 K n) = gelu (∑ d : Fin 1024, x1 (ix2 K d) * x0 (ix2 d n)) := by
  rw [← ref_up, gelu_eq]
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply]
  generalize val_main_v17 (F := Ideal) x0 x1 (ix2 K n) = h
  rfl

theorem ref_term (h : Fin 8) (a p : Fin 128) (n : Fin 32768) :
    val_main_v13 (F := Ideal) x3 x4 x5 x6 (ix4 h a p n) = tm (x3 (ix3 h a n)) (x4 (ix3 h a n)) (x5 (ix3 h p n)) (x6 (ix3 h p n)) := by
  pointwise [val_main_v13, val_main_v12, val_main_v11, val_main_v10, val_main_call0_v2, val_main_call0_v1, val_main_call0_v0, val_main_cst,
    val_main_v9, val_main_v8, val_main_v7, val_main_v6, val_main_v5, val_main_v4, val_main_v3, val_main_v2, tm, tmv, k0_pay5]
  refine congrArg (· * _) ?_
  split_ifs
  · rfl
  · exact zero_eq

theorem ref_gate (a p : Fin 128) (n : Fin 32768) (K : Fin 16384) (hK : K.val = 128 * a.val + p.val) :
    val_main_v15 (F := Ideal) x3 x4 x5 x6 (ix2 K n)
      = ∑ h : Fin 8, tm (x3 (ix3 h a n)) (x4 (ix3 h a n)) (x5 (ix3 h p n)) (x6 (ix3 h p n)) := by
  rw [val_main_v15_apply, val_main_v14_apply]
  have z : (val_main_cst_0 (F := Ideal)) (Shape.Idx.first Cert.PeerRefIdeal.Gen.h_S_) = (0 : EReal) := by
    show Ideal.ofBits .f32 0x00000000#32 = 0
    simp [Ideal.ofBits, Ideal.ieee]
  refine (congrArg (· + _) z).trans ((zero_add _).trans (Finset.sum_congr rfl fun h _ => ?_))
  have hp := p.isLt; have hn := n.isLt; have ha := a.isLt
  rw [← ref_term]
  refine congrArg _ (funext fun b => Fin.ext ?_)
  match b with
  | ⟨0, _⟩ => rfl
  | ⟨1, _⟩ => show (K.val * 32768 + n.val) / 4194304 = a.val; omega
  | ⟨2, _⟩ => show (K.val * 32768 + n.val) / 32768 % 128 = p.val; omega
  | ⟨3, _⟩ => show (K.val * 32768 + n.val) % 32768 = n.val; omega

/-- The reference's sum over all experts. -/
theorem ref_sum (n : Fin 32768) (d : Fin 1024) :
    val_main_v33 (F := Ideal) x0 x1 x2 x3 x4 x5 x6 (ix2 n d)
      = ∑ K : Fin 16384, val_main_v31 (F := Ideal) x0 x1 x3 x4 x5 x6 (ix2 K n) * x2 (ix2 K d) := by
  pointwise [val_main_v33, val_main_v32]

/-- All experts, block by block. -/
theorem sum_blocks (f : Fin 16384 → EReal) :
    ∑ K : Fin 16384, f K = ∑ s : Fin 8, ∑ k : Fin 2048, f ⟨2048 * s.val + k.val, by omega⟩ := by
  refine Eq.trans (((finProdFinEquiv (m := 8) (n := 2048)).sum_comp f).symm) ((Fintype.sum_prod_type _).trans ?_)
  refine Finset.sum_congr rfl fun s _ => Finset.sum_congr rfl fun k _ => congrArg f (Fin.ext ?_)
  show k.val + 2048 * s.val = 2048 * s.val + k.val
  omega

/-! ### The layer norm of a row -/

/-- The residual sum. -/
def res (v2612 : Vec Ideal S1024x512 .f32) (v2614 : Vec Ideal S512x1024 .f32) (v2617 : Vec Ideal S1x1x1024 .f32) : FVec Ideal S512x1024 .f32 :=
  addf (mulf (broadcast S512x1024 (Scalar.ofBits .f32 0x3FB504F3#32)) v2614)
    (mulf (broadcastTo S512x1024 (shapeCast S1x1024 v2617 shapeCasts_S1x1x1024_S1x1024) broadcasts_S1x1024_S512x1024)
      (transpose S512x1024 [1, 0] v2612 transposes_S1024x512_p1_0_S512x1024))

def cen (z : FVec Ideal S512x1024 .f32) : FVec Ideal S512x1024 .f32 :=
  subf z (broadcastTo S512x1024 (divf (shapeCast S512x1 (multiReduction .add [1] S512 z 0x00000000#32 reduces_S512x1024_S512 (.inl rfl) rfl) shapeCasts_S512_S512x1)
    (broadcast S512x1 (Scalar.ofBits .f32 0x44800000#32))) broadcasts_S512x1_S512x1024)

def nrm (u : FVec Ideal S512x1024 .f32) (w b : Vec Ideal S1x1024 .f32) : FVec Ideal S512x1024 .f32 :=
  addf (mulf (mulf u (broadcastTo S512x1024 (rsqrt (addf (divf (shapeCast S512x1 (multiReduction .add [1] S512 (mulf u u) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024))
    (broadcastTo S512x1024 (shapeCast S1x1024 w shapeCasts_S1x1024_S1x1024) broadcasts_S1x1024_S512x1024))
    (broadcastTo S512x1024 (shapeCast S1x1024 b shapeCasts_S1x1024_S1x1024) broadcasts_S1x1024_S512x1024)

theorem pay2_eq (acc : Vec Ideal S1024x512 .f32) (x7 : Vec Ideal S512x1024 .f32) (x8 : Vec Ideal S1x1x1024 .f32) (x9 x10 : Vec Ideal S1x1024 .f32) :
    k0_pay2 acc x7 x8 x9 x10 = nrm (cen (res acc x7 x8)) x9 x10 := rfl

theorem res_apply (acc : Vec Ideal S1024x512 .f32) (x7 : Vec Ideal S512x1024 .f32) (x8 : Vec Ideal S1x1x1024 .f32) (q : Fin 512) (d : Fin 1024) :
    res acc x7 x8 (ix2 q d) = ((Scalar.ofBits .f32 0x3FB504F3#32 : Ideal .f32) * x7 (ix2 q d) + x8 (ix3 (0 : Fin 1) (0 : Fin 1) d) * acc (ix2 d q) : EReal) := by
  pointwise [res]

/-- A row less its mean. -/
def ctr (z : Fin 1024 → EReal) (d : Fin 1024) : EReal := cen (fun y => z (y 1)) (ix2 (0 : Fin 512) d)

/-- A centred row, normalised. -/
def lnm (u : Fin 1024 → EReal) (w b : EReal) (d : Fin 1024) : EReal := nrm (fun y => u (y 1)) (fun _ => w) (fun _ => b) (ix2 (0 : Fin 512) d)

theorem cen_apply (z : FVec Ideal S512x1024 .f32) (q : Fin 512) (d : Fin 1024) : cen z (ix2 q d) = ctr (fun d => z (ix2 q d)) d := by
  pointwise [ctr, cen]

theorem nrm_apply (u : FVec Ideal S512x1024 .f32) (w b : Vec Ideal S1x1024 .f32) (q : Fin 512) (d : Fin 1024) :
    nrm u w b (ix2 q d) = lnm (fun d => u (ix2 q d)) (w (ix2 (0 : Fin 1) d)) (b (ix2 (0 : Fin 1) d)) d := by
  pointwise [lnm, nrm]

variable (x7 : FVec Ideal Cert.PeerRefIdeal.S32768x1024 .f32) (x8 : FVec Ideal Cert.PeerRefIdeal.S16x1x1024 .f32) (x9 x10 : FVec Ideal Cert.PeerRefIdeal.S1024 .f32)

theorem ref_res (n : Fin 32768) (d : Fin 1024) (b : Fin 16) (hb : b.val = n.val / 2048) :
    val_main_v40 (F := Ideal) x0 x1 x2 x3 x4 x5 x6 x7 x8 (ix2 n d)
      = ((Scalar.ofBits .f32 0x3FB504F3#32 : Ideal .f32) * x7 (ix2 n d) + x8 (ix3 b (0 : Fin 1) d) * val_main_v33 (F := Ideal) x0 x1 x2 x3 x4 x5 x6 (ix2 n d) : EReal) := by
  have e8 : ∀ i : Cert.PeerRefIdeal.S16x1x1024.Idx, (i 0).val = n.val / 2048 → (i 2).val = d.val → i = ix3 b (0 : Fin 1) d := by
    intro i h0 h2
    refine funext fun a => Fin.ext ?_
    match a with
    | ⟨0, _⟩ => exact h0.trans hb.symm
    | ⟨1, _⟩ => have : (i 1).val < 1 := (i 1).isLt; show (i 1).val = 0; omega
    | ⟨2, _⟩ => exact h2
  have hn := n.isLt; have hd := d.isLt
  simp only [val_main_v40_apply, val_main_v35_apply, val_main_v34_apply, val_main_v39_apply, val_main_v38_apply, val_main_v37_apply, val_main_v36_apply]
  generalize val_main_v33 (F := Ideal) x0 x1 x2 x3 x4 x5 x6 = Y
  have eY : ∀ i : Cert.PeerRefIdeal.S32768x1024.Idx, (i 0).val = n.val → (i 1).val = d.val → i = ix2 n d := by
    intro i h0 h1
    refine funext fun a => Fin.ext ?_
    match a with
    | ⟨0, _⟩ => exact h0
    | ⟨1, _⟩ => exact h1
  rw [e8 (idx_main_v37 (idx_main_v39 (ix2 n d))) (by show (n.val * 1024 + d.val) / 2097152 = _; omega) (by show (n.val * 1024 + d.val) % 1024 = _; omega),
    eY (idx_main_v36 (idx_main_v39 (ix2 n d)))
      (by show (((n.val * 1024 + d.val) / 2097152 * 2048 + (n.val * 1024 + d.val) / 1024 % 2048) * 1024 + (n.val * 1024 + d.val) % 1024) / 1024 = _; omega)
      (by show (((n.val * 1024 + d.val) / 2097152 * 2048 + (n.val * 1024 + d.val) / 1024 % 2048) * 1024 + (n.val * 1024 + d.val) % 1024) % 1024 = _; omega)]
  rfl

theorem ref_cen (n : Fin 32768) (d : Fin 1024) :
    val_main_v46 (F := Ideal) x0 x1 x2 x3 x4 x5 x6 x7 x8 (ix2 n d)
      = ctr (fun d => val_main_v40 (F := Ideal) x0 x1 x2 x3 x4 x5 x6 x7 x8 (ix2 n d)) d := by
  unfold val_main_v46 val_main_v45 val_main_v44 val_main_v42 val_main_v41
  generalize val_main_v40 (F := Ideal) x0 x1 x2 x3 x4 x5 x6 x7 x8 = Z
  pointwise [ctr, cen, val_main_cst_6, val_main_v43, val_main_cst_7]

theorem ref_norm (n : Fin 32768) (d : Fin 1024) :
    val_main_v64 (F := Ideal) x0 x1 x2 x3 x4 x5 x6 x7 x8 x9 x10 (ix2 n d)
      = lnm (fun d => val_main_v46 (F := Ideal) x0 x1 x2 x3 x4 x5 x6 x7 x8 (ix2 n d)) (x9 (ix1 d)) (x10 (ix1 d)) d := by
  have h53 : val_main_v53 (F := Ideal) x0 x1 x2 x3 x4 x5 x6 x7 x8 = val_main_v46 (F := Ideal) x0 x1 x2 x3 x4 x5 x6 x7 x8 := rfl
  unfold val_main_v64 val_main_v61 val_main_v58 val_main_v57 val_main_v56 val_main_v55 val_main_v51 val_main_v49 val_main_v48 val_main_v47
  rw [h53]
  generalize val_main_v46 (F := Ideal) x0 x1 x2 x3 x4 x5 x6 x7 x8 = Z
  pointwise [lnm, nrm, val_main_cst_8, val_main_v50, val_main_cst_9, val_main_v54, val_main_cst_10, val_main_v59, val_main_v60, val_main_v62, val_main_v63]

end Cert.PeerIdeal.Out
-- ==== Proof.PeerValue.lean ====
/-
  The experts of the latent tokens: the carried sum over the eight blocks of experts, and the whole output.
-/
module

public import proofs.«01_k».proof.Proof.PeerPoint
public import proofs.«01_k».proof.Proof.PeerRef
public import Idealize.ShloMosaic.Lib.Pipeline.ValueKit

set_option maxRecDepth 65536
set_option maxHeartbeats 4000000

@[expose] public section

noncomputable section

open Idealize.ShloMosaic Idealize.ShloMosaic.TcCoe Idealize.SL.Sem
open Idealize.ShloMosaic.Pipeline (Dat)

namespace Cert.PeerIdeal.Out

open Cert.PeerIdeal Cert.PeerIdeal.Gen
open Cert.PeerRefIdeal.Read

variable (m : (ℓ : Loc nD τ sig) → Buf (Elt Ideal) ℓ)

/-- Where every window's block sits at grid point `t`: token tile `t / 8`, block of experts `t % 8`. -/
theorem idx : ∀ t : Fin cfg0.N, win0_0.index t = ![0, t.val / 8] ∧ win0_1.index t = ![t.val % 8, 0]
    ∧ win0_2.index t = ![0, t.val % 8] ∧ win0_3.index t = ![0, t.val % 8, t.val / 8] ∧ win0_4.index t = ![0, t.val % 8, t.val / 8]
    ∧ win0_5.index t = ![0, 0, t.val / 8] ∧ win0_6.index t = ![0, 0, t.val / 8] ∧ win0_7.index t = ![t.val / 8, 0]
    ∧ win0_8.index t = ![t.val / 32, 0, 0] ∧ win0_9.index t = ![0, 0] ∧ win0_10.index t = ![0, 0] ∧ win0_11.index t = ![t.val / 8, 0] :=
  (by decide +kernel : ∀ t : Fin grid0.N, _)

theorem points : cfg0.N = 512 := by decide +kernel

theorem flushes : ∀ t : Fin cfg0.N, (cfg0.win 11).flush t = true → t.val % 8 = 7 :=
  (by decide +kernel : ∀ t : Fin grid0.N, _)

/-- A grid point's tokens, experts, first keys and batch. -/
def tok (t : Fin cfg0.N) (q : Fin 512) : Fin 32768 := ⟨512 * (t.val / 8) + q.val, by have := t.isLt; have := points; omega⟩
def ex (t : Fin cfg0.N) (k : Fin 2048) : Fin 16384 := ⟨2048 * (t.val % 8) + k.val, by omega⟩
def fst (t : Fin cfg0.N) (j : Fin 16) : Fin 128 := ⟨16 * (t.val % 8) + j.val, by omega⟩
def bat (t : Fin cfg0.N) : Fin 16 := ⟨t.val / 32, by have := t.isLt; have := points; omega⟩

theorem blk0 (c : Dev nD) (t : Fin cfg0.N) (d : Fin 1024) (q : Fin 512) :
    iblk m c 0 t (ix2 d q) = m ((c : Thread nD τ).loc main_arg0) (ix2 d (tok t q)) := by
  show V m c main_arg0 ((win0_0.blk t).view.emb (ix2 d q)) = _
  have he : (win0_0.blk t).view.emb (ix2 d q) = (ix2 d (tok t q) : S1024x32768.Idx) := by blk_ext [idx t, tok]
  rw [he, V_main_arg0]

theorem blk1 (c : Dev nD) (t : Fin cfg0.N) (k : Fin 2048) (d : Fin 1024) :
    iblk m c 1 t (ix2 k d) = m ((c : Thread nD τ).loc main_arg1) (ix2 (ex t k) d) := by
  show V m c main_v0 ((win0_1.blk t).view.emb (ix2 k d)) = _
  have he : (win0_1.blk t).view.emb (ix2 k d) = (ix2 (ex t k) d : S16384x1024.Idx) := by blk_ext [idx t, ex]
  rw [he]
  entry_read
  pointwise

theorem blk2 (c : Dev nD) (t : Fin cfg0.N) (d : Fin 1024) (k : Fin 2048) :
    iblk m c 2 t (ix2 d k) = m ((c : Thread nD τ).loc main_arg2) (ix2 (ex t k) d) := by
  show V m c main_v2 ((win0_2.blk t).view.emb (ix2 d k)) = _
  have he : (win0_2.blk t).view.emb (ix2 d k) = (ix2 d (ex t k) : S1024x16384.Idx) := by blk_ext [idx t, ex]
  rw [he]
  entry_read
  pointwise

theorem blk3 (c : Dev nD) (t : Fin cfg0.N) (h : Fin 8) (j : Fin 16) (q : Fin 512) :
    iblk m c 3 t (ix3 h j q) = m ((c : Thread nD τ).loc main_arg3) (ix3 h (fst t j) (tok t q)) := by
  show V m c main_arg3 ((win0_3.blk t).view.emb (ix3 h j q)) = _
  have he : (win0_3.blk t).view.emb (ix3 h j q) = (ix3 h (fst t j) (tok t q) : S8x128x32768.Idx) := by blk_ext [idx t, fst, tok]
  rw [he, V_main_arg3]

theorem blk4 (c : Dev nD) (t : Fin cfg0.N) (h : Fin 8) (j : Fin 16) (q : Fin 512) :
    iblk m c 4 t (ix3 h j q) = m ((c : Thread nD τ).loc main_arg4) (ix3 h (fst t j) (tok t q)) := by
  show V m c main_arg4 ((win0_4.blk t).view.emb (ix3 h j q)) = _
  have he : (win0_4.blk t).view.emb (ix3 h j q) = (ix3 h (fst t j) (tok t q) : S8x128x32768.Idx) := by blk_ext [idx t, fst, tok]
  rw [he, V_main_arg4]

theorem blk5 (c : Dev nD) (t : Fin cfg0.N) (h : Fin 8) (p : Fin 128) (q : Fin 512) :
    iblk m c 5 t (ix3 h p q) = m ((c : Thread nD τ).loc main_arg5) (ix3 h p (tok t q)) := by
  show V m c main_arg5 ((win0_5.blk t).view.emb (ix3 h p q)) = _
  have he : (win0_5.blk t).view.emb (ix3 h p q) = (ix3 h p (tok t q) : S8x128x32768.Idx) := by blk_ext [idx t, tok]
  rw [he, V_main_arg5]

theorem blk6 (c : Dev nD) (t : Fin cfg0.N) (h : Fin 8) (p : Fin 128) (q : Fin 512) :
    iblk m c 6 t (ix3 h p q) = m ((c : Thread nD τ).loc main_arg6) (ix3 h p (tok t q)) := by
  show V m c main_arg6 ((win0_6.blk t).view.emb (ix3 h p q)) = _
  have he : (win0_6.blk t).view.emb (ix3 h p q) = (ix3 h p (tok t q) : S8x128x32768.Idx) := by blk_ext [idx t, tok]
  rw [he, V_main_arg6]

theorem blk7 (c : Dev nD) (t : Fin cfg0.N) (q : Fin 512) (d : Fin 1024) :
    iblk m c 7 t (ix2 q d) = m ((c : Thread nD τ).loc main_arg7) (ix2 (tok t q) d) := by
  show V m c main_arg7 ((win0_7.blk t).view.emb (ix2 q d)) = _
  have he : (win0_7.blk t).view.emb (ix2 q d) = (ix2 (tok t q) d : S32768x1024.Idx) := by blk_ext [idx t, tok]
  rw [he, V_main_arg7]

theorem blk8 (c : Dev nD) (t : Fin cfg0.N) (d : Fin 1024) :
    iblk m c 8 t (ix3 (0 : Fin 1) (0 : Fin 1) d) = m ((c : Thread nD τ).loc main_arg8) (ix3 (bat t) (0 : Fin 1) d) := by
  show V m c main_arg8 ((win0_8.blk t).view.emb (ix3 (0 : Fin 1) (0 : Fin 1) d)) = _
  have he : (win0_8.blk t).view.emb (ix3 (0 : Fin 1) (0 : Fin 1) d) = (ix3 (bat t) (0 : Fin 1) d : S16x1x1024.Idx) := by blk_ext [idx t, bat]
  rw [he, V_main_arg8]

theorem blk9 (c : Dev nD) (t : Fin cfg0.N) (d : Fin 1024) :
    iblk m c 9 t (ix2 (0 : Fin 1) d) = m ((c : Thread nD τ).loc main_arg9) (ix1 d) := by
  show V m c main_v3 ((win0_9.blk t).view.emb (ix2 (0 : Fin 1) d)) = _
  have he : (win0_9.blk t).view.emb (ix2 (0 : Fin 1) d) = (ix2 (0 : Fin 1) d : S1x1024.Idx) := by blk_ext [idx t]
  rw [he]
  entry_read
  pointwise

theorem blk10 (c : Dev nD) (t : Fin cfg0.N) (d : Fin 1024) :
    iblk m c 10 t (ix2 (0 : Fin 1) d) = m ((c : Thread nD τ).loc main_arg10) (ix1 d) := by
  show V m c main_v4 ((win0_10.blk t).view.emb (ix2 (0 : Fin 1) d)) = _
  have he : (win0_10.blk t).view.emb (ix2 (0 : Fin 1) d) = (ix2 (0 : Fin 1) d : S1x1024.Idx) := by blk_ext [idx t]
  rw [he]
  entry_read
  pointwise

/-! ### The carried sum -/

/-- An entry of the product of a block of the down projection and the gated activations. -/
def prod (w : Vec Ideal S1024x2048 .bf16) (z : Vec Ideal S2048x512 .bf16) (d : Fin 1024) (q : Fin 512) : EReal :=
  ∑ k : Fin 2048, (w (ix2 d k) * z (ix2 k q) : EReal)

theorem pay1_apply (acc : Vec Ideal S1024x512 .f32) (w : Vec Ideal S1024x2048 .bf16) (z : Vec Ideal S2048x512 .bf16) (d : Fin 1024) (q : Fin 512) :
    k0_pay1 acc w z (ix2 d q) = (acc (ix2 d q) + prod w z d q : EReal) := by
  pointwise [k0_pay1, prod]

theorem pay3_apply (d : Fin 1024) (q : Fin 512) : k0_pay3 (F := Ideal) (ix2 d q) = (0 : EReal) := by
  pointwise [k0_pay3]

theorem pay4_apply (x0 : Vec Ideal S1024x512 .bf16) (x1 : Vec Ideal S2048x1024 .bf16) (k : Fin 2048) (q : Fin 512) :
    k0_pay4 x1 x0 (ix2 k q) = (∑ d : Fin 1024, x1 (ix2 k d) * x0 (ix2 d q) : EReal) := by
  pointwise [k0_pay4]

/-- The gated activations of a grid point. -/
def zt (c : Dev nD) (t : Fin cfg0.N) : Vec Ideal S2048x512 .bf16 :=
  zbuf (iblk m c 0 t) (iblk m c 1 t) (iblk m c 3 t) (iblk m c 4 t) (iblk m c 5 t) (iblk m c 6 t)

/-- They are the reference's, at the point's experts and tokens. -/
theorem zt_eq (c : Dev nD) (t : Fin cfg0.N) (k : Fin 2048) (q : Fin 512) :
    zt m c t (ix2 k q) = val_main_v31 (F := Ideal) (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) (ix2 (ex t k) (tok t q)) := by
  obtain ⟨j, hj⟩ : ∃ j : Fin 16, j.val = k.val / 128 := ⟨⟨k.val / 128, by omega⟩, rfl⟩
  obtain ⟨p, hp⟩ : ∃ p : Fin 128, p.val = k.val % 128 := ⟨⟨k.val % 128, by omega⟩, rfl⟩
  have hk : (⟨128 * j.val + p.val, by omega⟩ : Fin 2048) = k := Fin.ext (by show 128 * j.val + p.val = k.val; omega)
  have e : zt m c t (ix2 k q) = zat (iblk m c 0 t) (iblk m c 1 t) (iblk m c 3 t) (iblk m c 4 t) (iblk m c 5 t) (iblk m c 6 t) j p q := by
    exact congrArg₂ (fun j p => zat (iblk m c 0 t) (iblk m c 1 t) (iblk m c 3 t) (iblk m c 4 t) (iblk m c 5 t) (iblk m c 6 t) j p q)
      (Fin.ext hj.symm) (Fin.ext hp.symm)
  rw [e, val_main_v31_apply, ref_act, ref_gate _ _ _ _ (fst t j) p (tok t q) (ex t k) (by show 2048 * (t.val % 8) + k.val = 128 * (16 * (t.val % 8) + j.val) + p.val; omega)]
  unfold zat gate term
  rw [hk, pay4_apply]
  simp only [blk0, blk1, blk3, blk4, blk5, blk6]
  exact mul_comm (_ : EReal) _

/-- What a grid point adds to the sum. -/
def addend (c : Dev nD) (n : ℕ) (y : S1024x512.Idx) : EReal :=
  if hb : n < cfg0.N then prod (iblk m c 2 ⟨n, hb⟩) (zt m c ⟨n, hb⟩) (y 0) (y 1) else 0

theorem addend_apply (c : Dev nD) (t : Fin cfg0.N) (d : Fin 1024) (q : Fin 512) :
    addend m c t.val (ix2 d q) = prod (iblk m c 2 t) (zt m c t) d q := dif_pos t.isLt

theorem first (c : Dev nD) (n : ℕ) (hb : n < cfg0.N) (h0 : n % 8 = 0) (acc : Vec Ideal S1024x512 .f32) (y : S1024x512.Idx) :
    Cert.PeerIdeal.Value.scAt0_0 m c n hb acc y = (0 + addend m c n y : EReal) := by
  obtain ⟨d, q, rfl⟩ : ∃ (d : Fin 1024) (q : Fin 512), y = ix2 d q := ⟨y 0, y 1, eq_ix2 y⟩
  unfold Cert.PeerIdeal.Value.scAt0_0
  rw [dif_pos h0, dif_neg (by omega), sout_A, pay1_apply, pay3_apply, addend_apply m c ⟨n, hb⟩]
  rfl

theorem next (c : Dev nD) (n : ℕ) (hb : n < cfg0.N) (h0 : ¬n % 8 = 0) (acc : Vec Ideal S1024x512 .f32) (y : S1024x512.Idx) :
    Cert.PeerIdeal.Value.scAt0_0 m c n hb acc y = (acc y + addend m c n y : EReal) := by
  obtain ⟨d, q, rfl⟩ : ∃ (d : Fin 1024) (q : Fin 512), y = ix2 d q := ⟨y 0, y 1, eq_ix2 y⟩
  unfold Cert.PeerIdeal.Value.scAt0_0
  by_cases h1 : n % 8 = 7
  · rw [dif_neg h0, dif_pos h1, sout_C, pay1_apply, addend_apply m c ⟨n, hb⟩]
    rfl
  · rw [dif_neg h0, dif_neg h1, sout_B, pay1_apply, addend_apply m c ⟨n, hb⟩]
    rfl

/-- At the last block of experts the sum is complete: the blocks' addends. -/
theorem carried (c : Dev nD) (t : Fin cfg0.N) (h7 : t.val % 8 = 7) (y : S1024x512.Idx) :
    (outsAt0 m c t.val t.isLt).2 y = (∑ s ∈ Finset.range 8, addend m c (8 * (t.val / 8) + s) y : EReal) := by
  rw [Cert.PeerIdeal.Value.soutsAt0_0_eq]
  refine (Pipeline.accAt_add_apply (β := EReal) _ _ (fun _ => (0 : EReal)) (addend m c) (8 * (t.val / 8)) 7 ?_ ?_ (t.val % 8) (by omega) _ y).trans ?_
  · intro h i
    exact first m c _ h (by omega) _ i
  · intro n h acc i h1 h2
    exact next m c n h (by omega) acc i
  · rw [h7]
    exact zero_add _

/-- … which is the reference's sum over all experts. -/
theorem sum_eq (c : Dev nD) (t : Fin cfg0.N) (h7 : t.val % 8 = 7) (d : Fin 1024) (q : Fin 512) :
    (outsAt0 m c t.val t.isLt).2 (ix2 d q) = val_main_v33 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix2 (tok t q) d) := by
  refine (carried m c t h7 (ix2 d q)).trans (Eq.trans ?_ (ref_sum _ _ _ _ _ _ _ (tok t q) d).symm)
  rw [sum_blocks, Finset.sum_range]
  refine Finset.sum_congr rfl fun s _ => ?_
  have hs := s.isLt
  have hb : 8 * (t.val / 8) + s.val < cfg0.N := by have := t.isLt; have := points; omega
  refine (addend_apply m c ⟨8 * (t.val / 8) + s.val, hb⟩ d q).trans (Finset.sum_congr rfl fun k _ => ?_)
  rw [blk2, zt_eq]
  have hx : ex ⟨8 * (t.val / 8) + s.val, hb⟩ k = ⟨2048 * s.val + k.val, by omega⟩ := Fin.ext (by
    show 2048 * ((8 * (t.val / 8) + s.val) % 8) + k.val = 2048 * s.val + k.val; omega)
  have ht : tok ⟨8 * (t.val / 8) + s.val, hb⟩ q = tok t q := Fin.ext (by
    show 512 * ((8 * (t.val / 8) + s.val) / 8) + q.val = 512 * (t.val / 8) + q.val; omega)
  rw [hx, ht]
  exact mul_comm (_ : EReal) _

/-- The output block of a token tile's last grid point. -/
theorem block (c : Dev nD) (t : Fin cfg0.N) (h7 : t.val % 8 = 7) :
    (outsAt0 m c t.val t.isLt).1 = k0_pay2 (outsAt0 m c t.val t.isLt).2 (iblk m c 7 t) (iblk m c 8 t) (iblk m c 9 t) (iblk m c 10 t) := by
  rw [outsAt0_C m c t (by omega) h7]
  dsimp only
  rw [out_C, sout_C]

theorem point (c : Dev nD) (t : Fin cfg0.N) (h7 : t.val % 8 = 7) (q : Fin 512) (d : Fin 1024) :
    (outsAt0 m c t.val t.isLt).1 (ix2 q d) = val_main_v64 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) (ix2 (tok t q) d) := by
  have hs := fun d => sum_eq m c t h7 d q
  rw [block m c t h7, pay2_eq, nrm_apply, ref_norm]
  simp only [cen_apply, res_apply, ref_cen, blk7, blk8, blk9, blk10, hs]
  have hb : (bat t).val = (tok t q).val / 2048 := by
    have := q.isLt
    show t.val / 32 = (512 * (t.val / 8) + q.val) / 2048
    omega
  have hr := fun d => ref_res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (tok t q) d (bat t) hb
  simp only [hr]

/-- The array of the output after the run. -/
theorem final (c : Dev nD) : (dats m 0 c).arrAt 11 (cfgs 0).N
    = val_main_v64 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) := by
  refine (dats m 0 c).arrAt_eq_of_covers 11 _ (by decide +kernel) fun t hf y => ?_
  have h7 := flushes t hf
  blk_simp
  rw [after0_11]
  obtain ⟨q, d, rfl⟩ : ∃ (q : Fin 512) (d : Fin 1024), y = ix2 q d := ⟨y 0, y 1, eq_ix2 y⟩
  have he : (win0_11.blk t).view.emb (ix2 q d) = (ix2 (tok t q) d : S32768x1024.Idx) := by blk_ext [idx t, tok]
  exact (point m c t h7 q d).trans (congrArg _ he.symm)

end Cert.PeerIdeal.Out
-- ==== Proof.NaLoops.lean ====
/-
  The neighbourhood attention of the latent tokens: what the two loops of the body leave in the scratch arrays and in the output block.
-/
module

public import proofs.«01_k».proof.Proof.NaSpec
public import proofs.«01_k».proof.Proof.Gen.NaIdeal.Frame.Runs

@[expose] public section

set_option maxRecDepth 16384
set_option maxHeartbeats 1000000

noncomputable section

open Idealize.ShloMosaic Idealize.ShloMosaic.TcCoe Idealize.ShloMosaic.Tactic Idealize.SL.Sem

namespace Cert.NaIdeal.Out

open Cert.NaIdeal Cert.NaIdeal.Gen

/-- Every piece of `L` holds `G` where it lies. -/
def Good {s : Shape} {e : EltTy} (G : s.Idx → Elt Ideal e) (L : List (View.Piece (Elt Ideal) s e)) : Prop :=
  ∀ p ∈ L, ∀ x, p.2 x = G (p.1.emb x)

/-- Every index that satisfies `P` lies in a piece of `L`. -/
def Covers {s : Shape} {e : EltTy} (P : s.Idx → Prop) (L : List (View.Piece (Elt Ideal) s e)) : Prop :=
  ∀ y, P y → ∃ p ∈ L, y ∈ p.1.set

theorem Good.append {s : Shape} {e : EltTy} {G : s.Idx → Elt Ideal e} {L M : List (View.Piece (Elt Ideal) s e)} (h : Good G L) (k : Good G M) :
    Good G (L ++ M) := fun p hp => (List.mem_append.1 hp).elim (h p) (k p)

theorem Good.two {s : Shape} {e : EltTy} {G : s.Idx → Elt Ideal e} {r r' : Rect s} {w : r.shape.Idx → Elt Ideal e} {w' : r'.shape.Idx → Elt Ideal e}
    (h : ∀ x, w x = G (r.emb x)) (k : ∀ x, w' x = G (r'.emb x)) : Good G [⟨r, w⟩, ⟨r', w'⟩] := by
  intro p hp
  rcases List.mem_cons.1 hp with rfl | hp
  · exact h
  · rcases List.mem_cons.1 hp with rfl | hp
    · exact k
    · exact absurd hp List.not_mem_nil

theorem Covers.append {s : Shape} {e : EltTy} {P Q R : s.Idx → Prop} {L M : List (View.Piece (Elt Ideal) s e)} (h : Covers P L) (k : Covers Q M)
    (hR : ∀ y, R y → P y ∨ Q y) : Covers R (L ++ M) := fun y hy => by
  rcases hR y hy with hp | hq
  · obtain ⟨p, hp, hm⟩ := h y hp; exact ⟨p, List.mem_append_left _ hp, hm⟩
  · obtain ⟨p, hp, hm⟩ := k y hq; exact ⟨p, List.mem_append_right _ hp, hm⟩

theorem slab {n d : ℕ} (x : (⟨3, ![1, n, d]⟩ : Shape).Idx) : ∃ (r : Fin n) (e : Fin d), x = ix3 0 r e :=
  ⟨x 1, x 2, (eq_ix3 x).trans (congrArg (fun a : Fin 1 => ix3 a (x 1) (x 2)) (Subsingleton.elim (α := Fin 1) (x 0) 0))⟩

theorem mem_emb {s : Shape} (r : Rect s) (x : r.shape.Idx) : r.emb x ∈ r.set := by
  rw [← Rect.map_emb_univ]; exact Finset.mem_map_of_mem _ (Finset.mem_univ x)

/-- Pieces that are right and leave nothing out: the array read back is the formula. -/
theorem read_good {s : Shape} {e : EltTy} {G : s.Idx → Elt Ideal e} {L : List (View.Piece (Elt Ideal) s e)} {sp : Space} (M : Memref sig .tc sp s e)
    (f : BufTy.Contents (Elt Ideal) M.view.ty) (h : Good G L) (k : Covers (fun _ => True) L) :
    M.view.read (Elt Ideal) (M.view.writes (Elt Ideal) f L) = G :=
  funext fun y => M.view.read_writes_apply_of_pieces f G L h y (k y trivial)

section
variable (g : Fin k0_t1_loop.trips)

theorem emb7 (r : Fin 256) (n : Fin 256) :
    (Rect.unit (s := S2x2048x256) (k0_off7 g) S1x256x256.size (k0_off7_inb g)).emb (ix3 (n0 := 1) (n1 := 256) (n2 := 256) 0 r n) = ix3 (n0 := 2) (n1 := 2048) (n2 := 256) 1 (at1 g r) n := by
  funext a; apply Fin.ext
  refine (ValueKit.rect_emb_unit_val _ _ _ _ a).trans ?_
  have o := congrFun (off7 g) a; fin_cases a <;> simp at o <;> simp [ix3, at1, o]

theorem emb4 (r : Fin 256) (n : Fin 256) :
    (Rect.unit (s := S2x2048x256) (k0_off4 g) S1x256x256.size (k0_off4_inb g)).emb (ix3 (n0 := 1) (n1 := 256) (n2 := 256) 0 r n) = ix3 (n0 := 2) (n1 := 2048) (n2 := 256) 0 (at1 g r) n := by
  funext a; apply Fin.ext
  refine (ValueKit.rect_emb_unit_val _ _ _ _ a).trans ?_
  have o := congrFun (off4 g) a; fin_cases a <;> simp at o <;> simp [ix3, at1, o]

theorem emb8 (r : Fin 256) (n : Fin 128) :
    (Rect.unit (s := S2x2048x128) (k0_off8 g) S1x256x128.size (k0_off8_inb g)).emb (ix3 (n0 := 1) (n1 := 256) (n2 := 128) 0 r n) = ix3 (n0 := 2) (n1 := 2048) (n2 := 128) 1 (at1 g r) n := by
  funext a; apply Fin.ext
  refine (ValueKit.rect_emb_unit_val _ _ _ _ a).trans ?_
  have o := congrFun (off8 g) a; fin_cases a <;> simp at o <;> simp [ix3, at1, o]

theorem emb5 (r : Fin 256) (n : Fin 128) :
    (Rect.unit (s := S2x2048x128) (k0_off5 g) S1x256x128.size (k0_off5_inb g)).emb (ix3 (n0 := 1) (n1 := 256) (n2 := 128) 0 r n) = ix3 (n0 := 2) (n1 := 2048) (n2 := 128) 0 (at1 g r) n := by
  funext a; apply Fin.ext
  refine (ValueKit.rect_emb_unit_val _ _ _ _ a).trans ?_
  have o := congrFun (off5 g) a; fin_cases a <;> simp at o <;> simp [ix3, at1, o]

end

theorem off9 : ∀ g, k0_off9 g = ![0, 512 * g.val, 0] := by decide +kernel
theorem off10 : ∀ g, k0_off10 g = ![0, 512 * g.val, 0] := by decide +kernel
theorem off11 : ∀ g, k0_off11 g = ![1, 512 * g.val, 0] := by decide +kernel
theorem off12 : ∀ g, k0_off12 g = ![1, 512 * g.val, 0] := by decide +kernel
theorem off13 : ∀ g, k0_off13 g = ![0, 512 * g.val, 0] := by decide +kernel

section
variable (g : Fin k0_t2_loop.trips)

/-- Row `r` of trip `g` of the second loop. -/
def at2 (r : Fin 512) : Fin 2048 := ⟨512 * g.val + r.val, by have := g.isLt; have := trips2; omega⟩

theorem at2_mk (p : Fin 2048) (hp : p.val / 512 = g.val) : at2 g ⟨p.val % 512, by omega⟩ = p :=
  Fin.ext (by simp only [at2]; omega)

theorem emb13 (r : Fin 512) (n : Fin 128) :
    (Rect.unit (s := S1x2048x128) (k0_off13 g) S1x512x128.size (k0_off13_inb g)).emb (ix3 (n0 := 1) (n1 := 512) (n2 := 128) 0 r n) = ix3 (n0 := 1) (n1 := 2048) (n2 := 128) 0 (at2 g r) n := by
  funext a; apply Fin.ext
  refine (ValueKit.rect_emb_unit_val _ _ _ _ a).trans ?_
  have o := congrFun (off13 g) a; fin_cases a <;> simp at o <;> simp [ix3, at2, o]

theorem ld9 (s : Vec Ideal S2x2048x128 .f32) (r : Fin 512) (n : Fin 128) :
    View.ld (Val := Elt Ideal) s (Rect.unit (s := S2x2048x128) (k0_off9 g) S1x512x128.size (k0_off9_inb g)) (ix3 0 r n) = s (ix3 0 (at2 g r) n) := by
  refine View.ld_unit_apply_of _ _ _ _ _ _ fun a => ?_
  have o := congrFun (off9 g) a; fin_cases a <;> simp at o <;> simp [ix3, at2, o]

theorem ld10 (s : Vec Ideal S2x2048x256 .bf16) (r : Fin 512) (n : Fin 256) :
    View.ld (Val := Elt Ideal) s (Rect.unit (s := S2x2048x256) (k0_off10 g) S1x512x256.size (k0_off10_inb g)) (ix3 0 r n) = s (ix3 0 (at2 g r) n) := by
  refine View.ld_unit_apply_of _ _ _ _ _ _ fun a => ?_
  have o := congrFun (off10 g) a; fin_cases a <;> simp at o <;> simp [ix3, at2, o]

theorem ld11 (s : Vec Ideal S2x2048x128 .f32) (r : Fin 512) (n : Fin 128) :
    View.ld (Val := Elt Ideal) s (Rect.unit (s := S2x2048x128) (k0_off11 g) S1x512x128.size (k0_off11_inb g)) (ix3 0 r n) = s (ix3 1 (at2 g r) n) := by
  refine View.ld_unit_apply_of _ _ _ _ _ _ fun a => ?_
  have o := congrFun (off11 g) a; fin_cases a <;> simp at o <;> simp [ix3, at2, o]

theorem ld12 (s : Vec Ideal S2x2048x256 .bf16) (r : Fin 512) (n : Fin 256) :
    View.ld (Val := Elt Ideal) s (Rect.unit (s := S2x2048x256) (k0_off12 g) S1x512x256.size (k0_off12_inb g)) (ix3 0 r n) = s (ix3 1 (at2 g r) n) := by
  refine View.ld_unit_apply_of _ _ _ _ _ _ fun a => ?_
  have o := congrFun (off12 g) a; fin_cases a <;> simp at o <;> simp [ix3, at2, o]

end

section
variable (g : Fin k0_t1_loop.trips)

/-- The row of a group from its number. -/
theorem at1_mk (p : Fin 2048) (hp : p.val / 256 = g.val) : at1 g (inGroup p) = p :=
  Fin.ext (by simp only [at1, inGroup]; omega)
end

section
variable (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2x3x256x704 .f32) (harg7 : arg7.IsWhole) (arg8 : Memref sig .tc .vmem S1x2048x128 .bf16) (harg8 : arg8.IsWhole) (arg9 : Memref sig .tc .vmem S2x2048x256 .f32) (harg9 : arg9.IsWhole) (arg10 : Memref sig .tc .vmem S2x2048x256 .bf16) (harg10 : arg10.IsWhole) (arg11 : Memref sig .tc .vmem S2x2048x128 .f32) (harg11 : arg11.IsWhole) (arg12 : Memref sig .tc .vmem S2x2048x128 .f32) (harg12 : arg12.IsWhole) (v2 v4 : IVec S1x128 1) (z : BitVec 32) (v8 : FVec Ideal S256x128 .bf16)
  (X2 : BufTy.Contents (Elt Ideal) arg2.view.ty) (X3 : BufTy.Contents (Elt Ideal) arg3.view.ty) (X4 : BufTy.Contents (Elt Ideal) arg4.view.ty) (X7 : BufTy.Contents (Elt Ideal) arg7.view.ty) (X9 : BufTy.Contents (Elt Ideal) arg9.view.ty)
  (X10 : BufTy.Contents (Elt Ideal) arg10.view.ty) (X11 : BufTy.Contents (Elt Ideal) arg11.view.ty) (X12 : BufTy.Contents (Elt Ideal) arg12.view.ty)

/-- What a trip of the first loop stores. -/
theorem trip1_eq (g : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g =
    ([⟨Rect.unit (s := S2x2048x256) (k0_off7 g) S1x256x256.size (k0_off7_inb g), k0_pay5 (k0_pay21 v4 (k0_pay9 (View.readAt (Elt Ideal) arg2.view (Rect.unit (s := S1x2048x128) (k0_off1 g) S1x256x128.size (k0_off1_inb g)).toLoadRect X2)) (k0_pay10 (View.readAt (Elt Ideal) arg3.view (Rect.unit (s := S1x2048x128) (k0_off2 g) S1x704x128.size (k0_off2_inb g)).toLoadRect X3)) (View.readAt (Elt Ideal) arg7.view (Rect.unit (s := S2x3x256x704) (k0_off6 g) S1x1x256x704.size (k0_off6_inb g)).toLoadRect X7)) (View.readAt (Elt Ideal) arg9.view (Rect.unit (s := S2x2048x256) (k0_off7 g) S1x256x256.size (k0_off7_inb g)).toLoadRect X9)⟩,
      ⟨Rect.unit (s := S2x2048x256) (k0_off4 g) S1x256x256.size (k0_off4_inb g), k0_pay18 (k0_pay13 (View.readAt (Elt Ideal) arg9.view (Rect.unit (s := S2x2048x256) (k0_off4 g) S1x256x256.size (k0_off4_inb g)).toLoadRect X9)) (k0_pay14 v2 (View.readAt (Elt Ideal) arg2.view (Rect.unit (s := S1x2048x128) (k0_off1 g) S1x256x128.size (k0_off1_inb g)).toLoadRect X2) (View.readAt (Elt Ideal) arg3.view (Rect.unit (s := S1x2048x128) (k0_off2 g) S1x704x128.size (k0_off2_inb g)).toLoadRect X3) (View.readAt (Elt Ideal) arg7.view (Rect.unit (s := S2x3x256x704) (k0_off3 g) S1x1x256x704.size (k0_off3_inb g)).toLoadRect X7))⟩],
     [⟨Rect.unit (s := S2x2048x128) (k0_off8 g) S1x256x128.size (k0_off8_inb g), k0_pay7 (k0_pay11 (View.readAt (Elt Ideal) arg4.view (Rect.unit (s := S1x2048x128) (k0_off2 g) S1x704x128.size (k0_off2_inb g)).toLoadRect X4)) (k0_pay21 v4 (k0_pay9 (View.readAt (Elt Ideal) arg2.view (Rect.unit (s := S1x2048x128) (k0_off1 g) S1x256x128.size (k0_off1_inb g)).toLoadRect X2)) (k0_pay10 (View.readAt (Elt Ideal) arg3.view (Rect.unit (s := S1x2048x128) (k0_off2 g) S1x704x128.size (k0_off2_inb g)).toLoadRect X3)) (View.readAt (Elt Ideal) arg7.view (Rect.unit (s := S2x3x256x704) (k0_off6 g) S1x1x256x704.size (k0_off6_inb g)).toLoadRect X7)) (View.readAt (Elt Ideal) arg9.view (Rect.unit (s := S2x2048x256) (k0_off7 g) S1x256x256.size (k0_off7_inb g)).toLoadRect X9)⟩,
      ⟨Rect.unit (s := S2x2048x128) (k0_off5 g) S1x256x128.size (k0_off5_inb g), k0_pay20 (k0_pay11 (View.readAt (Elt Ideal) arg4.view (Rect.unit (s := S1x2048x128) (k0_off2 g) S1x704x128.size (k0_off2_inb g)).toLoadRect X4)) (k0_pay12 v2 (View.readAt (Elt Ideal) arg2.view (Rect.unit (s := S1x2048x128) (k0_off1 g) S1x256x128.size (k0_off1_inb g)).toLoadRect X2) (View.readAt (Elt Ideal) arg3.view (Rect.unit (s := S1x2048x128) (k0_off2 g) S1x704x128.size (k0_off2_inb g)).toLoadRect X3) (View.readAt (Elt Ideal) arg7.view (Rect.unit (s := S2x3x256x704) (k0_off3 g) S1x1x256x704.size (k0_off3_inb g)).toLoadRect X7)) (k0_pay13 (View.readAt (Elt Ideal) arg9.view (Rect.unit (s := S2x2048x256) (k0_off4 g) S1x256x256.size (k0_off4_inb g)).toLoadRect X9)) (k0_pay14 v2 (View.readAt (Elt Ideal) arg2.view (Rect.unit (s := S1x2048x128) (k0_off1 g) S1x256x128.size (k0_off1_inb g)).toLoadRect X2) (View.readAt (Elt Ideal) arg3.view (Rect.unit (s := S1x2048x128) (k0_off2 g) S1x704x128.size (k0_off2_inb g)).toLoadRect X3) (View.readAt (Elt Ideal) arg7.view (Rect.unit (s := S2x3x256x704) (k0_off3 g) S1x1x256x704.size (k0_off3_inb g)).toLoadRect X7))⟩],
     [⟨Rect.unit (s := S2x2048x128) (k0_off8 g) S1x256x128.size (k0_off8_inb g), k0_pay6 (k0_pay21 v4 (k0_pay9 (View.readAt (Elt Ideal) arg2.view (Rect.unit (s := S1x2048x128) (k0_off1 g) S1x256x128.size (k0_off1_inb g)).toLoadRect X2)) (k0_pay10 (View.readAt (Elt Ideal) arg3.view (Rect.unit (s := S1x2048x128) (k0_off2 g) S1x704x128.size (k0_off2_inb g)).toLoadRect X3)) (View.readAt (Elt Ideal) arg7.view (Rect.unit (s := S2x3x256x704) (k0_off6 g) S1x1x256x704.size (k0_off6_inb g)).toLoadRect X7)) (View.readAt (Elt Ideal) arg9.view (Rect.unit (s := S2x2048x256) (k0_off7 g) S1x256x256.size (k0_off7_inb g)).toLoadRect X9)⟩,
      ⟨Rect.unit (s := S2x2048x128) (k0_off5 g) S1x256x128.size (k0_off5_inb g), k0_pay19 (k0_pay12 v2 (View.readAt (Elt Ideal) arg2.view (Rect.unit (s := S1x2048x128) (k0_off1 g) S1x256x128.size (k0_off1_inb g)).toLoadRect X2) (View.readAt (Elt Ideal) arg3.view (Rect.unit (s := S1x2048x128) (k0_off2 g) S1x704x128.size (k0_off2_inb g)).toLoadRect X3) (View.readAt (Elt Ideal) arg7.view (Rect.unit (s := S2x3x256x704) (k0_off3 g) S1x1x256x704.size (k0_off3_inb g)).toLoadRect X7)) (k0_pay13 (View.readAt (Elt Ideal) arg9.view (Rect.unit (s := S2x2048x256) (k0_off4 g) S1x256x256.size (k0_off4_inb g)).toLoadRect X9)) (k0_pay14 v2 (View.readAt (Elt Ideal) arg2.view (Rect.unit (s := S1x2048x128) (k0_off1 g) S1x256x128.size (k0_off1_inb g)).toLoadRect X2) (View.readAt (Elt Ideal) arg3.view (Rect.unit (s := S1x2048x128) (k0_off2 g) S1x704x128.size (k0_off2_inb g)).toLoadRect X3) (View.readAt (Elt Ideal) arg7.view (Rect.unit (s := S2x3x256x704) (k0_off3 g) S1x1x256x704.size (k0_off3_inb g)).toLoadRect X7))⟩]) := by
  unfold tripL_k0_t1 trip_k0_t1
  rfl

variable (q k v : Vec Ideal S1x2048x128 .bf16) (kc vc : Vec Ideal S1x256x128 .bf16) (b : Vec Ideal S2x3x256x704 .f32)
  (h2 : arg2.view.read (Elt Ideal) X2 = q) (h3 : arg3.view.read (Elt Ideal) X3 = k) (h4 : arg4.view.read (Elt Ideal) X4 = v)
  (h7 : arg7.view.read (Elt Ideal) X7 = b) (h9 : arg9.view.read (Elt Ideal) X9 = G9 q kc)
include h2 h3 h4 h7 h9

/-- What a trip of the first loop stores is what the formulas say. -/
theorem trip1_good (hv2 : v2 = mask 0) (hv4 : v4 = mask 1) (g : Fin k0_t1_loop.trips) :
    Good (G10 q k kc b) (tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g).1
    ∧ Good (G11 q k v kc b) (tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g).2.1
    ∧ Good (G12 q k kc b) (tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g).2.2 := by
  rw [trip1_eq]
  simp only [View.readAt_eq_ld, h2, h3, h4, h7, h9]
  have hq := ld1 g q
  have hk := ld2 g k
  have hv := ld2 g v
  have s0 := scores0 q k b 0 (at1 g) hv2 hq hk (ld3 g b)
  have s1 := scores1 q k b 1 (at1 g) hv4 hq hk (ld6 g b)
  have c0 := ld4 g (G9 q kc)
  have c1 := ld7 g (G9 q kc)
  have t0 := top0 q k b 0 (at1 g) s0
  refine ⟨Good.two (fun x => ?_) (fun x => ?_), Good.two (fun x => ?_) (fun x => ?_), Good.two (fun x => ?_) (fun x => ?_)⟩
  · obtain ⟨r, n, rfl⟩ : ∃ (r n : Fin 256), x = ix3 0 r n := slab x
    rw [emb7]; exact weights1 q k kc b 1 (at1 g) s1 c1 r n
  · obtain ⟨r, n, rfl⟩ : ∃ (r n : Fin 256), x = ix3 0 r n := slab x
    rw [emb4]; exact weights0 q k kc b 0 (at1 g) s0 c0 t0 r n
  · obtain ⟨r, n, rfl⟩ : ∃ (r : Fin 256) (n : Fin 128), x = ix3 0 r n := slab x
    rw [emb8]; exact band1 q k v kc b 1 (at1 g) s1 c1 hv r n
  · obtain ⟨r, n, rfl⟩ : ∃ (r : Fin 256) (n : Fin 128), x = ix3 0 r n := slab x
    rw [emb5]; exact band0 q k v kc b 0 (at1 g) s0 c0 hv t0 r n
  · obtain ⟨r, n, rfl⟩ : ∃ (r : Fin 256) (n : Fin 128), x = ix3 0 r n := slab x
    rw [emb8]; exact total1 q k kc b 1 (at1 g) s1 c1 r n
  · obtain ⟨r, n, rfl⟩ : ∃ (r : Fin 256) (n : Fin 128), x = ix3 0 r n := slab x
    rw [emb5]; exact total0 q k kc b 0 (at1 g) s0 c0 t0 r n
omit h2 h3 h4 h7 h9

/-- A trip of the first loop stores every row of its group. -/
theorem trip1_cover (g : Fin k0_t1_loop.trips) :
    Covers (fun y => (y 1).val / 256 = g.val) (tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g).1
    ∧ Covers (fun y => (y 1).val / 256 = g.val) (tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g).2.1
    ∧ Covers (fun y => (y 1).val / 256 = g.val) (tripL_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 g).2.2 := by
  rw [trip1_eq]
  have two : ∀ a : Fin 2, a = 0 ∨ a = 1 := by decide
  refine ⟨fun y hy => ?_, fun y hy => ?_, fun y hy => ?_⟩
  · obtain ⟨a, p, d, rfl⟩ : ∃ (a : Fin 2) (p : Fin 2048) (d : Fin 256), y = ix3 a p d := ⟨y 0, y 1, y 2, eq_ix3 y⟩
    have hp := at1_mk g p hy
    rcases two a with rfl | rfl
    · have e := emb4 g (inGroup p) d; rw [hp] at e
      exact ⟨_, List.mem_cons_of_mem _ List.mem_cons_self, by rw [← e]; exact mem_emb _ _⟩
    · have e := emb7 g (inGroup p) d; rw [hp] at e
      exact ⟨_, List.mem_cons_self, by rw [← e]; exact mem_emb _ _⟩
  · obtain ⟨a, p, d, rfl⟩ : ∃ (a : Fin 2) (p : Fin 2048) (d : Fin 128), y = ix3 a p d := ⟨y 0, y 1, y 2, eq_ix3 y⟩
    have hp := at1_mk g p hy
    rcases two a with rfl | rfl
    · have e := emb5 g (inGroup p) d; rw [hp] at e
      exact ⟨_, List.mem_cons_of_mem _ List.mem_cons_self, by rw [← e]; exact mem_emb _ _⟩
    · have e := emb8 g (inGroup p) d; rw [hp] at e
      exact ⟨_, List.mem_cons_self, by rw [← e]; exact mem_emb _ _⟩
  · obtain ⟨a, p, d, rfl⟩ : ∃ (a : Fin 2) (p : Fin 2048) (d : Fin 128), y = ix3 a p d := ⟨y 0, y 1, y 2, eq_ix3 y⟩
    have hp := at1_mk g p hy
    rcases two a with rfl | rfl
    · have e := emb5 g (inGroup p) d; rw [hp] at e
      exact ⟨_, List.mem_cons_of_mem _ List.mem_cons_self, by rw [← e]; exact mem_emb _ _⟩
    · have e := emb8 g (inGroup p) d; rw [hp] at e
      exact ⟨_, List.mem_cons_self, by rw [← e]; exact mem_emb _ _⟩

include h2 h3 h4 h7 h9
/-- The first `n` trips' pieces are what the formulas say. -/
theorem pb1_good (hv2 : v2 = mask 0) (hv4 : v4 = mask 1) : ∀ n ≤ k0_t1_loop.trips,
    Good (G10 q k kc b) (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 n).1
    ∧ Good (G11 q k v kc b) (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 n).2.1
    ∧ Good (G12 q k kc b) (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 n).2.2
  | 0, _ => ⟨fun p hp => absurd hp List.not_mem_nil, fun p hp => absurd hp List.not_mem_nil, fun p hp => absurd hp List.not_mem_nil⟩
  | n + 1, hn => by
    obtain ⟨i0, i1, i2⟩ := pb1_good hv2 hv4 n (Nat.le_of_succ_le hn)
    obtain ⟨t0, t1, t2⟩ := trip1_good 𝒱 c bd i arg2 harg2 arg3 harg3 arg4 harg4 arg5 harg5 arg6 harg6 arg7 harg7 arg8 harg8 arg9 harg9 arg10 harg10 arg11 harg11 arg12 harg12 v2 v4 z X2 X3 X4 X7 X9 q k v kc b h2 h3 h4 h7 h9 hv2 hv4 ⟨n, hn⟩
    rw [pb_k0_t1_succ (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 ⟨n, hn⟩]
    exact ⟨t0.append i0, t1.append i1, t2.append i2⟩
omit h2 h3 h4 h7 h9

/-- The first `n` trips store every row before `256 n`. -/
theorem pb1_cover : ∀ n ≤ k0_t1_loop.trips,
    Covers (fun y => (y 1).val < 256 * n) (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 n).1
    ∧ Covers (fun y => (y 1).val < 256 * n) (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 n).2.1
    ∧ Covers (fun y => (y 1).val < 256 * n) (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 n).2.2
  | 0, _ => ⟨fun y hy => absurd hy (Nat.not_lt_zero _), fun y hy => absurd hy (Nat.not_lt_zero _), fun y hy => absurd hy (Nat.not_lt_zero _)⟩
  | n + 1, hn => by
    obtain ⟨i0, i1, i2⟩ := pb1_cover n (Nat.le_of_succ_le hn)
    obtain ⟨t0, t1, t2⟩ := trip1_cover 𝒱 c bd i arg2 harg2 arg3 harg3 arg4 harg4 arg5 harg5 arg6 harg6 arg7 harg7 arg8 harg8 arg9 harg9 arg10 harg10 arg11 harg11 arg12 harg12 v2 v4 z X2 X3 X4 X7 X9 ⟨n, hn⟩
    rw [pb_k0_t1_succ (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 ⟨n, hn⟩]
    exact ⟨t0.append i0 fun y hy => by dsimp only at hy ⊢; omega, t1.append i1 fun y hy => by dsimp only at hy ⊢; omega, t2.append i2 fun y hy => by dsimp only at hy ⊢; omega⟩

/-- The whole first loop: the three arrays it fills hold the formulas. -/
theorem loop1 (hv2 : v2 = mask 0) (hv4 : v4 = mask 1) (h2 : arg2.view.read (Elt Ideal) X2 = q) (h3 : arg3.view.read (Elt Ideal) X3 = k)
    (h4 : arg4.view.read (Elt Ideal) X4 = v) (h7 : arg7.view.read (Elt Ideal) X7 = b) (h9 : arg9.view.read (Elt Ideal) X9 = G9 q kc)
    (f10 : BufTy.Contents (Elt Ideal) arg10.view.ty) (f11 : BufTy.Contents (Elt Ideal) arg11.view.ty) (f12 : BufTy.Contents (Elt Ideal) arg12.view.ty) :
    arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 k0_t1_loop.trips).1) = G10 q k kc b
    ∧ arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 k0_t1_loop.trips).2.1) = G11 q k v kc b
    ∧ arg12.view.read (Elt Ideal) (arg12.view.writes (Elt Ideal) f12 (pb_k0_t1 (F := Ideal) 𝒱 c bd i arg2 harg2 arg3 harg3 arg4 harg4 arg5 harg5 arg6 harg6 arg7 harg7 arg8 harg8 arg9 harg9 arg10 harg10 arg11 harg11 arg12 harg12 v2 v4 z X2 X3 X4 X7 X9 k0_t1_loop.trips).2.2) = G12 q k kc b := by
  obtain ⟨g0, g1, g2⟩ := pb1_good 𝒱 c bd i arg2 harg2 arg3 harg3 arg4 harg4 arg5 harg5 arg6 harg6 arg7 harg7 arg8 harg8 arg9 harg9 arg10 harg10 arg11 harg11 arg12 harg12 v2 v4 z X2 X3 X4 X7 X9 q k v kc b h2 h3 h4 h7 h9 hv2 hv4 k0_t1_loop.trips le_rfl
  obtain ⟨c0, c1, c2⟩ := pb1_cover 𝒱 c bd i arg2 harg2 arg3 harg3 arg4 harg4 arg5 harg5 arg6 harg6 arg7 harg7 arg8 harg8 arg9 harg9 arg10 harg10 arg11 harg11 arg12 harg12 v2 v4 z X2 X3 X4 X7 X9 k0_t1_loop.trips le_rfl
  refine ⟨read_good arg10 f10 g0 fun y _ => c0 y ?_, read_good arg11 f11 g1 fun y _ => c1 y ?_, read_good arg12 f12 g2 fun y _ => c2 y ?_⟩ <;>
  · have := (y 1).isLt
    rw [trips1]; exact this

/-- What a trip of the second loop stores. -/
theorem trip2_eq (g : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 v2 v8 X10 X11 X12 g = [⟨Rect.unit (s := S1x2048x128) (k0_off13 g) S1x512x128.size (k0_off13_inb g), k0_pay8 v2 v8 (View.readAt (Elt Ideal) arg11.view (Rect.unit (s := S2x2048x128) (k0_off9 g) S1x512x128.size (k0_off9_inb g)).toLoadRect X11)
      (View.readAt (Elt Ideal) arg10.view (Rect.unit (s := S2x2048x256) (k0_off10 g) S1x512x256.size (k0_off10_inb g)).toLoadRect X10) (View.readAt (Elt Ideal) arg12.view (Rect.unit (s := S2x2048x128) (k0_off9 g) S1x512x128.size (k0_off9_inb g)).toLoadRect X12) (View.readAt (Elt Ideal) arg11.view (Rect.unit (s := S2x2048x128) (k0_off11 g) S1x512x128.size (k0_off11_inb g)).toLoadRect X11)
      (View.readAt (Elt Ideal) arg10.view (Rect.unit (s := S2x2048x256) (k0_off12 g) S1x512x256.size (k0_off12_inb g)).toLoadRect X10) (View.readAt (Elt Ideal) arg12.view (Rect.unit (s := S2x2048x128) (k0_off11 g) S1x512x128.size (k0_off11_inb g)).toLoadRect X12)⟩] := by
  unfold tripL_k0_t2 trip_k0_t2
  rfl

/-- A trip of the second loop stores the output's own rows. -/
theorem trip2_good (hv2 : v2 = mask 0) (hv8 : v8 = k0_pay25 vc) (h10 : arg10.view.read (Elt Ideal) X10 = G10 q k kc b)
    (h11 : arg11.view.read (Elt Ideal) X11 = G11 q k v kc b) (h12 : arg12.view.read (Elt Ideal) X12 = G12 q k kc b) (g : Fin k0_t2_loop.trips) :
    Good (OUT q k v kc vc b) (tripL_k0_t2 (F := Ideal) 𝒱 c bd i arg2 harg2 arg3 harg3 arg4 harg4 arg5 harg5 arg6 harg6 arg7 harg7 arg8 harg8 arg9 harg9 arg10 harg10 arg11 harg11 arg12 harg12 v2 v8 X10 X11 X12 g) ∧ Covers (fun y => (y 1).val / 512 = g.val) (tripL_k0_t2 (F := Ideal) 𝒱 c bd i arg2 harg2 arg3 harg3 arg4 harg4 arg5 harg5 arg6 harg6 arg7 harg7 arg8 harg8 arg9 harg9 arg10 harg10 arg11 harg11 arg12 harg12 v2 v8 X10 X11 X12 g) := by
  rw [trip2_eq]
  simp only [View.readAt_eq_ld, h10, h11, h12]
  subst hv8
  refine ⟨fun p hp x => ?_, fun y hy => ⟨_, List.mem_cons_self, ?_⟩⟩
  · rcases List.mem_cons.1 hp with rfl | hp
    · obtain ⟨r, d, rfl⟩ : ∃ (r : Fin 512) (d : Fin 128), x = ix3 0 r d := slab x
      dsimp only; rw [emb13]
      exact combine q k v kc vc b hv2 (at2 g) (ld9 g _) (ld11 g _) (ld9 g _) (ld11 g _) (ld10 g _) (ld12 g _) r d
    · exact absurd hp List.not_mem_nil
  · obtain ⟨p, d, rfl⟩ : ∃ (p : Fin 2048) (d : Fin 128), y = ix3 0 p d := slab y
    have e := emb13 g ⟨p.val % 512, by omega⟩ d
    rw [at2_mk g p hy] at e
    rw [← e]; exact mem_emb _ _

/-- The whole second loop: the output block. -/
theorem loop2 (hv2 : v2 = mask 0) (hv8 : v8 = k0_pay25 vc) (h10 : arg10.view.read (Elt Ideal) X10 = G10 q k kc b)
    (h11 : arg11.view.read (Elt Ideal) X11 = G11 q k v kc b) (h12 : arg12.view.read (Elt Ideal) X12 = G12 q k kc b)
    (f8 : BufTy.Contents (Elt Ideal) arg8.view.ty) :
    arg8.view.read (Elt Ideal) (arg8.view.writes (Elt Ideal) f8 (pb_k0_t2 (F := Ideal) 𝒱 c bd i arg2 harg2 arg3 harg3 arg4 harg4 arg5 harg5 arg6 harg6 arg7 harg7 arg8 harg8 arg9 harg9 arg10 harg10 arg11 harg11 arg12 harg12 v2 v8 X10 X11 X12 k0_t2_loop.trips)) = OUT q k v kc vc b := by
  have all : ∀ n ≤ k0_t2_loop.trips, Good (OUT q k v kc vc b) (pb_k0_t2 (F := Ideal) 𝒱 c bd i arg2 harg2 arg3 harg3 arg4 harg4 arg5 harg5 arg6 harg6 arg7 harg7 arg8 harg8 arg9 harg9 arg10 harg10 arg11 harg11 arg12 harg12 v2 v8 X10 X11 X12 n)
      ∧ Covers (fun y => (y 1).val < 512 * n) (pb_k0_t2 (F := Ideal) 𝒱 c bd i arg2 harg2 arg3 harg3 arg4 harg4 arg5 harg5 arg6 harg6 arg7 harg7 arg8 harg8 arg9 harg9 arg10 harg10 arg11 harg11 arg12 harg12 v2 v8 X10 X11 X12 n) := by
    intro n
    induction n with
    | zero => exact fun _ => ⟨fun p hp => absurd hp List.not_mem_nil, fun y hy => absurd hy (Nat.not_lt_zero _)⟩
    | succ n ih =>
      intro hn
      obtain ⟨i0, i1⟩ := ih (Nat.le_of_succ_le hn)
      obtain ⟨t0, t1⟩ := trip2_good 𝒱 c bd i arg2 harg2 arg3 harg3 arg4 harg4 arg5 harg5 arg6 harg6 arg7 harg7 arg8 harg8 arg9 harg9 arg10 harg10 arg11 harg11 arg12 harg12 v2 v8 X10 X11 X12 q k v kc vc b hv2 hv8 h10 h11 h12 ⟨n, hn⟩
      rw [pb_k0_t2_succ (F := Ideal) 𝒱 c bd i arg2 harg2 arg3 harg3 arg4 harg4 arg5 harg5 arg6 harg6 arg7 harg7 arg8 harg8 arg9 harg9 arg10 harg10 arg11 harg11 arg12 harg12 v2 v8 X10 X11 X12 ⟨n, hn⟩]
      exact ⟨t0.append i0, t1.append i1 fun y hy => by dsimp only at hy ⊢; omega⟩
  obtain ⟨g0, c0⟩ := all _ le_rfl
  refine read_good arg8 f8 g0 fun y _ => c0 y ?_
  have := (y 1).isLt
  rw [trips2]; exact this
end

end Cert.NaIdeal.Out
-- ==== Proof.NaRun.lean ====
/-
  The neighbourhood attention of the latent tokens: the body's run at a grid point, and the launch, with the output block named by its formula.
-/
module

public import proofs.«01_k».proof.Proof.NaLoops
public import Idealize.ShloMosaic.Lib.Claim
public import Idealize.ShloMosaic.Lib.Pipeline.Value

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.NaIdeal.Out

open Cert.NaIdeal Cert.NaIdeal.Gen

local notation "𝕄" => MT nD τ sig Unit (Elt Ideal) ℕ (UR sig nD τ) ℕ

/-- The context's scores: the two pieces written, read back. -/
theorem scores_read (M : Memref sig .tc .vmem S2x2048x256 .f32) (f : BufTy.Contents (Elt Ideal) M.view.ty) (q : Vec Ideal S1x2048x128 .bf16) (kc : Vec Ideal S1x256x128 .bf16)
    {q1 q0 : Vec Ideal S1x2048x128 .bf16} {c1 c0 : Vec Ideal S1x256x128 .bf16} (hq1 : q1 = q) (hq0 : q0 = q) (hc1 : c1 = kc) (hc0 : c0 = kc) (i1 i0) :
    M.view.read (Elt Ideal) (M.view.writes (Elt Ideal) f [⟨Rect.unit (s := S2x2048x256) ![1, 0, 0] S1x2048x256.size i1, k0_pay27 c1 q1⟩, ⟨Rect.unit (s := S2x2048x256) ![0, 0, 0] S1x2048x256.size i0, k0_pay26 c0 q0⟩]) = G9 q kc := by
  subst hq1 hq0 hc1 hc0
  have e0 : ∀ (p : Fin 2048) (n : Fin 256), (Rect.unit (s := S2x2048x256) ![0, 0, 0] S1x2048x256.size i0).emb (ix3 (n0 := 1) (n1 := 2048) (n2 := 256) 0 p n) = ix3 (n0 := 2) (n1 := 2048) (n2 := 256) 0 p n := by
    intro p n; funext a; apply Fin.ext
    refine (ValueKit.rect_emb_unit_val _ _ _ _ a).trans ?_
    fin_cases a <;> simp [ix3]
  have e1 : ∀ (p : Fin 2048) (n : Fin 256), (Rect.unit (s := S2x2048x256) ![1, 0, 0] S1x2048x256.size i1).emb (ix3 (n0 := 1) (n1 := 2048) (n2 := 256) 0 p n) = ix3 (n0 := 2) (n1 := 2048) (n2 := 256) 1 p n := by
    intro p n; funext a; apply Fin.ext
    refine (ValueKit.rect_emb_unit_val _ _ _ _ a).trans ?_
    fin_cases a <;> simp [ix3]
  refine read_good M f (Good.two (fun x => ?_) (fun x => ?_)) fun y _ => ?_
  · obtain ⟨p, n, rfl⟩ : ∃ (p : Fin 2048) (n : Fin 256), x = ix3 0 p n := slab x
    rw [e1]; exact context1 _ _ p n
  · obtain ⟨p, n, rfl⟩ : ∃ (p : Fin 2048) (n : Fin 256), x = ix3 0 p n := slab x
    rw [e0]; exact context0 _ _ p n
  · have two : ∀ a : Fin 2, a = 0 ∨ a = 1 := by decide
    obtain ⟨a, p, n, rfl⟩ : ∃ (a : Fin 2) (p : Fin 2048) (n : Fin 256), y = ix3 a p n := ⟨y 0, y 1, y 2, eq_ix3 y⟩
    rcases two a with rfl | rfl
    · exact ⟨_, List.mem_cons_of_mem _ List.mem_cons_self, by rw [← e0]; exact mem_emb _ _⟩
    · exact ⟨_, List.mem_cons_self, by rw [← e1]; exact mem_emb _ _⟩

/-- A load of a whole block is the block. -/
theorem ld_all {n d : ℕ} {e : EltTy} (X : (⟨3, ![1, n, d]⟩ : Shape).Idx → Elt Ideal e) (inb) :
    View.ld (Val := Elt Ideal) X (Rect.unit (s := ⟨3, ![1, n, d]⟩) ![0, 0, 0] (⟨3, ![1, n, d]⟩ : Shape).size inb) = X :=
  funext fun x => View.ld_unit_apply_of _ _ _ _ _ _ fun a => by fin_cases a <;> simp

variable (m : (ℓ : Loc nD τ sig) → Buf (Elt Ideal) ℓ) (ρ : Dev nD → PrngReg)

set_option maxHeartbeats 4000000 in
/-- The body at any grid point: the inputs unchanged, the output block at its formula, the scratch at whatever it holds. -/
theorem body_run (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2x3x256x704 .f32) (harg7 : arg7.IsWhole) (arg8 : Memref sig .tc .vmem S1x2048x128 .bf16) (harg8 : arg8.IsWhole) (arg9 : Memref sig .tc .vmem S2x2048x256 .f32) (harg9 : arg9.IsWhole) (arg10 : Memref sig .tc .vmem S2x2048x256 .bf16) (harg10 : arg10.IsWhole) (arg11 : Memref sig .tc .vmem S2x2048x128 .f32) (harg11 : arg11.IsWhole) (arg12 : Memref sig .tc .vmem S2x2048x128 .f32) (harg12 : arg12.IsWhole)
    (x0 : Vec Ideal S1x2048x128 .bf16) (x1 : Vec Ideal S1x2048x128 .bf16) (x2 : Vec Ideal S1x2048x128 .bf16) (x3 : Vec Ideal S1x256x128 .bf16) (x4 : Vec Ideal S1x256x128 .bf16) (x5 : Vec Ideal S2x3x256x704 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (OUT x0 x1 x2 x3 x4 x5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) E (cc0_na_latent i arg2 harg2 arg3 harg3 arg4 harg4 arg5 harg5 arg6 harg6 arg7 harg7 arg8 harg8 arg9 harg9 arg10 harg10 arg11 harg11 arg12 harg12) K := by
  simp only [cc0_na_latent_eq_skeleton]; unfold cc0_na_latent_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    have r5 := harg5.read_unread (Val := Elt Ideal) x3
    have r6 := harg6.read_unread (Val := Elt Ideal) x4
    have r2 := harg2.read_unread (Val := Elt Ideal) x0
    have e6 : ∀ inb, k0_pay25 (View.readAt (Elt Ideal) arg6.view (Rect.unit (s := S1x256x128) ![0, 0, 0] S1x256x128.size inb).toLoadRect (harg6.unread x4)) = k0_pay25 x4 :=
      fun inb => congrArg k0_pay25 (by rw [View.readAt_eq_ld, r6]; exact ld_all x4 _)
    refine loop2 Variants.none c none i arg2 harg2 arg3 harg3 arg4 harg4 arg5 harg5 arg6 harg6 arg7 harg7 arg8 harg8 arg9 harg9 arg10 harg10 arg11 harg11 arg12 harg12 k0_pay22 _ _ _ _ x0 x1 x2 x3 x4 x5 rfl (e6 _) ?_ ?_ ?_ f6
    · exact (loop1 Variants.none c none i arg2 harg2 arg3 harg3 arg4 harg4 arg5 harg5 arg6 harg6 arg7 harg7 arg8 harg8 arg9 harg9 arg10 harg10 arg11 harg11 arg12 harg12 k0_pay22 k0_pay23 (0#32) (harg2.unread x0) (harg3.unread x1) (harg4.unread x2) (harg7.unread x5)
        _ x0 x1 x2 x3 x5 rfl rfl (harg2.read_unread x0) (harg3.read_unread x1) (harg4.read_unread x2) (harg7.read_unread x5)
        (scores_read arg9 arg9.view.junk x0 x3 (by rw [View.readAt_eq_ld, r2]; exact ld_all x0 _) (by rw [View.readAt_eq_ld, r2]; exact ld_all x0 _) (by rw [View.readAt_eq_ld, r5]; exact ld_all x3 _) (by rw [View.readAt_eq_ld, r5]; exact ld_all x3 _) _ _) fs1 fs2 fs3).1
    · exact (loop1 Variants.none c none i arg2 harg2 arg3 harg3 arg4 harg4 arg5 harg5 arg6 harg6 arg7 harg7 arg8 harg8 arg9 harg9 arg10 harg10 arg11 harg11 arg12 harg12 k0_pay22 k0_pay23 (0#32) (harg2.unread x0) (harg3.unread x1) (harg4.unread x2) (harg7.unread x5)
        _ x0 x1 x2 x3 x5 rfl rfl (harg2.read_unread x0) (harg3.read_unread x1) (harg4.read_unread x2) (harg7.read_unread x5)
        (scores_read arg9 arg9.view.junk x0 x3 (by rw [View.readAt_eq_ld, r2]; exact ld_all x0 _) (by rw [View.readAt_eq_ld, r2]; exact ld_all x0 _) (by rw [View.readAt_eq_ld, r5]; exact ld_all x3 _) (by rw [View.readAt_eq_ld, r5]; exact ld_all x3 _) _ _) fs1 fs2 fs3).2.1
    · exact (loop1 Variants.none c none i arg2 harg2 arg3 harg3 arg4 harg4 arg5 harg5 arg6 harg6 arg7 harg7 arg8 harg8 arg9 harg9 arg10 harg10 arg11 harg11 arg12 harg12 k0_pay22 k0_pay23 (0#32) (harg2.unread x0) (harg3.unread x1) (harg4.unread x2) (harg7.unread x5)
        _ x0 x1 x2 x3 x5 rfl rfl (harg2.read_unread x0) (harg3.read_unread x1) (harg4.read_unread x2) (harg7.read_unread x5)
        (scores_read arg9 arg9.view.junk x0 x3 (by rw [View.readAt_eq_ld, r2]; exact ld_all x0 _) (by rw [View.readAt_eq_ld, r2]; exact ld_all x0 _) (by rw [View.readAt_eq_ld, r5]; exact ld_all x3 _) (by rw [View.readAt_eq_ld, r5]; exact ld_all x3 _) _ _) fs1 fs2 fs3).2.2
  isplitl [HS0]
  · iexists _; iexists _; isplitr; swap; · iexact HS0
    ipureintro; rfl
  isplitl [HS1]
  · iexists _; iexists _; isplitr; swap; · iexact HS1
    ipureintro; rfl
  isplitl [HS2]
  · iexists _; iexists _; isplitr; swap; · iexact HS2
    ipureintro; rfl
  iexists _; iexists _; isplitr; swap; · iexact HS3
  ipureintro; rfl

/-! ## The pipeline's proof data -/

/-- The proof data of the one pipeline on core `c`: the arrays as the region finds them (`V`); after the body at
    point `t` each input's buffer at its block and the outputs' at `outsAt0`; the invariant the class's
   ; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUT (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch, every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, as the pipeline's own statement. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt Ideal) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16x2048x512.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v179) = (dats m 0 c).arrAt 6 cfg0.N :=
  (h c).1 6

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v179) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

end Cert.NaIdeal.Out
-- ==== Proof.NaValue.lean ====
/-
  The neighbourhood attention: the array the kernel leaves is the reference's.
-/
module

public import proofs.«01_k».proof.Proof.NaJoin
public import proofs.«01_k».proof.Proof.NaRun
public import Idealize.ShloMosaic.Lib.Pipeline.ValueKit

set_option maxRecDepth 16384
set_option maxHeartbeats 1000000

@[expose] public section

noncomputable section

open Idealize.ShloMosaic Idealize.ShloMosaic.TcCoe Idealize.SL.Sem
open Idealize.ShloMosaic.Pipeline (Dat)

namespace Cert.NaIdeal.Out

open Cert.NaIdeal Cert.NaIdeal.Gen

variable (m : (ℓ : Loc nD τ sig) → Buf (Elt Ideal) ℓ)

/-- Where every window's block sits at grid point `t`: batch `t / 4`, pair of heads `t % 4`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4]
    ∧ win0_4.index t = ![t.val / 4, 0, t.val % 4] ∧ win0_5.index t = ![t.val % 4, 0, 0, 0] ∧ win0_6.index t = ![t.val / 4, 0, t.val % 4] :=
  (by decide +kernel : ∀ t : Fin grid0.N, _)

theorem points : cfg0.N = 64 := by decide +kernel

/-- The batch and the pair of heads of a grid point. -/
def bt (t : Fin cfg0.N) : Fin 16 := ⟨t.val / 4, by have := t.isLt; have := points; omega⟩
def pr (t : Fin cfg0.N) : Fin 4 := ⟨t.val % 4, by omega⟩

theorem blk0 (c : Dev nD) (t : Fin cfg0.N) (p : Fin 2048) (e : Fin 128) :
    iblk m c 0 t (ix3 0 p e) = m ((c : Thread nD τ).loc main_arg0) (ix3 (bt t) p (ln (pr t) e)) := by
  show V m c main_arg0 ((win0_0.blk t).view.emb (ix3 0 p e)) = _
  have he : (win0_0.blk t).view.emb (ix3 0 p e) = (ix3 (bt t) p (ln (pr t) e) : S16x2048x512.Idx) := by blk_ext [idx t, bt, pr, ln]
  rw [he, V_main_arg0]

theorem blk1 (c : Dev nD) (t : Fin cfg0.N) (p : Fin 2048) (e : Fin 128) :
    iblk m c 1 t (ix3 0 p e) = m ((c : Thread nD τ).loc main_arg1) (ix3 (bt t) p (ln (pr t) e)) := by
  show V m c main_arg1 ((win0_1.blk t).view.emb (ix3 0 p e)) = _
  have he : (win0_1.blk t).view.emb (ix3 0 p e) = (ix3 (bt t) p (ln (pr t) e) : S16x2048x512.Idx) := by blk_ext [idx t, bt, pr, ln]
  rw [he, V_main_arg1]

theorem blk2 (c : Dev nD) (t : Fin cfg0.N) (p : Fin 2048) (e : Fin 128) :
    iblk m c 2 t (ix3 0 p e) = m ((c : Thread nD τ).loc main_arg2) (ix3 (bt t) p (ln (pr t) e)) := by
  show V m c main_arg2 ((win0_2.blk t).view.emb (ix3 0 p e)) = _
  have he : (win0_2.blk t).view.emb (ix3 0 p e) = (ix3 (bt t) p (ln (pr t) e) : S16x2048x512.Idx) := by blk_ext [idx t, bt, pr, ln]
  rw [he, V_main_arg2]

theorem blk3 (c : Dev nD) (t : Fin cfg0.N) (n : Fin 256) (e : Fin 128) :
    iblk m c 3 t (ix3 0 n e) = m ((c : Thread nD τ).loc main_arg3) (ix3 (bt t) n (ln (pr t) e)) := by
  show V m c main_arg3 ((win0_3.blk t).view.emb (ix3 0 n e)) = _
  have he : (win0_3.blk t).view.emb (ix3 0 n e) = (ix3 (bt t) n (ln (pr t) e) : S16x256x512.Idx) := by blk_ext [idx t, bt, pr, ln]
  rw [he, V_main_arg3]

theorem blk4 (c : Dev nD) (t : Fin cfg0.N) (n : Fin 256) (e : Fin 128) :
    iblk m c 4 t (ix3 0 n e) = m ((c : Thread nD τ).loc main_arg4) (ix3 (bt t) n (ln (pr t) e)) := by
  show V m c main_arg4 ((win0_4.blk t).view.emb (ix3 0 n e)) = _
  have he : (win0_4.blk t).view.emb (ix3 0 n e) = (ix3 (bt t) n (ln (pr t) e) : S16x256x512.Idx) := by blk_ext [idx t, bt, pr, ln]
  rw [he, V_main_arg4]

theorem blk5 (c : Dev nD) (t : Fin cfg0.N) (h : Fin 2) (kd : Fin 3) (p : Fin 256) (j : Fin 704) :
    iblk m c 5 t (ix4 h kd p j) = biasAt (m ((c : Thread nD τ).loc main_arg5)) (hd (pr t) h) kd p j := by
  show V m c main_v178 ((win0_5.blk t).view.emb (ix4 h kd p j)) = _
  have he : (win0_5.blk t).view.emb (ix4 h kd p j) = (ix4 (hd (pr t) h) kd p j : S8x3x256x704.Idx) := by blk_ext [idx t, pr, hd]
  rw [he]
  exact bias_read m c (hd (pr t) h) kd p j

/-- The array of the attention's output after the run. -/
theorem final (c : Dev nD) : (dats m 0 c).arrAt 6 cfg0.N
    = Cert.NaRefIdeal.Read.val_main_v117 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨p, e, hy⟩ : ∃ (p : Fin 2048) (e : Fin 128), y = ix3 0 p e := ⟨y 1, y 2, by
    refine funext fun a => Fin.ext ?_
    match a with
    | ⟨0, _⟩ => have : (y 0).val < 1 := (y 0).isLt; show (y 0).val = 0; omega
    | ⟨1, _⟩ => rfl
    | ⟨2, _⟩ => rfl⟩
  subst hy
  have he : (win0_6.blk t).view.emb (ix3 0 p e) = (ix3 (bt t) p (ln (pr t) e) : S16x2048x512.Idx) := by blk_ext [idx t, bt, pr, ln]
  refine (out_eq (bt t) (pr t) (blk0 m c t) (blk1 m c t) (blk2 m c t) (blk3 m c t) (blk4 m c t) (blk5 m c t) p e).trans ?_
  exact congrArg _ he.symm

end Cert.NaIdeal.Out
-- ==== Proof.lean ====
module

public import proofs.«01_k».proof.Defs
public import proofs.«01_k».proof.Proof.Gen.Na
public import proofs.«01_k».proof.Proof.NaFrame
public import proofs.«01_k».proof.Proof.Gen.NaIdeal
public import proofs.«01_k».proof.Proof.Gen.NaRefIdeal.Run
public import proofs.«01_k».proof.Proof.Gen.NaRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.Peer
public import proofs.«01_k».proof.Proof.Gen.Peer.Frame
public import proofs.«01_k».proof.Proof.Gen.PeerIdeal
public import proofs.«01_k».proof.Proof.Gen.PeerIdeal.Frame
public import proofs.«01_k».proof.Proof.Gen.PeerIdeal.Value
public import proofs.«01_k».proof.Proof.Gen.PeerRefIdeal.Run
public import proofs.«01_k».proof.Proof.Gen.PeerRefIdeal.Read
public import proofs.«01_k».proof.Proof.ProjValue
public import proofs.«01_k».proof.Proof.MixValue
public import proofs.«01_k».proof.Proof.CtxValue
public import proofs.«01_k».proof.Proof.PeerValue
public import proofs.«01_k».proof.Proof.NaValue

@[expose] public section

noncomputable section

namespace Cert.Proof

open Idealize.ShloMosaic Idealize.SL.Sem

/-- The input projection: the kernel's six outputs and the reference's six results are the same arrays. -/
theorem algebraic_proj [Cert.ProjIdeal.Facts] [Cert.ProjRefIdeal.Facts] : Cert.algebraic_ProjIdeal_ProjRefIdeal := by
  intro m g m' g' _ hargs
  refine ⟨fun c => (Cert.ProjIdeal.Gen.dats m 0 c).arrAt 6 Cert.ProjIdeal.cfg0.N,
    fun c => (Cert.ProjIdeal.Gen.dats m 0 c).arrAt 7 Cert.ProjIdeal.cfg0.N,
    fun c => (Cert.ProjIdeal.Gen.dats m 0 c).arrAt 8 Cert.ProjIdeal.cfg0.N,
    fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    (θ_run _ _ _).mono (fun r h c => ?_) (Cert.ProjIdeal.Value.run_blocks m g), ?_⟩
  · obtain ⟨h0, h1, h2, h3, h4, h5, _, _, keep⟩ := h c
    exact ⟨h0, h1, h2, h3, h4, h5, keep⟩
  refine (θ_run _ _ _).mono (fun r h c => ?_) (Cert.ProjRefIdeal.Value.run m' g')
  obtain ⟨r0, r1, r2, r3, r4, r5, keep⟩ := h c
  obtain ⟨a0, a1, a2, a3⟩ := hargs c
  refine ⟨r0.trans ?_, r1.trans ?_, r2.trans ?_, r3.trans ?_, r4.trans ?_, r5.trans ?_, keep⟩
  · refine (Cert.ProjRefIdeal.Read.val_main_v7_eq _ _ _ _).trans ?_
    rw [a0, a1, a2, a3]; exact (Cert.ProjIdeal.Out.final6 m c).symm
  · refine (Cert.ProjRefIdeal.Read.val_main_v14_eq _ _ _ _).trans ?_
    rw [a0, a1, a2, a3]; exact (Cert.ProjIdeal.Out.final7 m c).symm
  · refine (Cert.ProjRefIdeal.Read.val_main_v15_eq _ _ _ _).trans ?_
    rw [a0, a1, a2, a3]; exact (Cert.ProjIdeal.Out.final8 m c).symm
  · refine (Cert.ProjRefIdeal.Read.val_main_v18_eq _ _ _ _).trans ?_
    rw [a0, a1, a2, a3]; exact (Cert.ProjIdeal.Out.final9 m c).symm
  · refine (Cert.ProjRefIdeal.Read.val_main_v19_eq _ _ _ _).trans ?_
    rw [a0, a1, a2, a3]; exact (Cert.ProjIdeal.Out.final10 m c).symm
  · refine (Cert.ProjRefIdeal.Read.val_main_v20_eq _ _ _ _).trans ?_
    rw [a0, a1, a2, a3]; exact (Cert.ProjIdeal.Out.final11 m c).symm

/-- The output projection with its residual and layer norm: the kernel's two outputs and the reference's two results
    are the same arrays. -/
theorem algebraic_mix [Cert.MixIdeal.Facts] [Cert.MixRefIdeal.Facts] : Cert.algebraic_MixIdeal_MixRefIdeal := by
  intro m g m' g' _ hargs
  refine ⟨_, _, Cert.MixIdeal.Value.run_blocks m g, ?_⟩
  refine (θ_run _ _ _).mono (fun r h c => ?_) (Cert.MixRefIdeal.Value.run m' g')
  obtain ⟨r0, r1, keep⟩ := h c
  obtain ⟨a0, a1, a2, a3, a4, a5, a6, a7, a8⟩ := hargs c
  refine ⟨r0.trans ?_, r1.trans ?_, keep⟩
  · refine (Cert.MixRefIdeal.Read.val_main_v32_eq m' c).trans ?_
    rw [a0, a1, a2, a3, a4, a5, a6]; exact (Cert.MixIdeal.Out.final9 m c).symm
  · refine (Cert.MixRefIdeal.Read.val_main_v41_eq m' c).trans ?_
    rw [a0, a1, a2, a3, a4, a5, a6, a7, a8]; exact (Cert.MixIdeal.Out.final10 m c).symm

/-- The neighbourhood attention: the kernel's output and the reference's result are the same array. -/
theorem algebraic_na [Cert.NaIdeal.Facts] [Cert.NaRefIdeal.Facts] : Cert.algebraic_NaIdeal_NaRefIdeal := by
  intro m g m' g' _ hargs
  refine ⟨_, Cert.NaIdeal.Out.run_blocks m g, ?_⟩
  refine (θ_run _ _ _).mono (fun r h c => ?_) (Cert.NaRefIdeal.Value.run m' g')
  obtain ⟨r0, keep⟩ := h c
  obtain ⟨a0, a1, a2, a3, a4, a5⟩ := hargs c
  refine ⟨r0.trans ?_, keep⟩
  refine (Cert.NaRefIdeal.Read.val_main_v117_eq m' c).trans ?_
  rw [a0, a1, a2, a3, a4, a5]; exact (Cert.NaIdeal.Out.final m c).symm

/-- The attention of the context tokens: the kernel's output and the reference's result are the same array. -/
theorem algebraic_ctx [Cert.CtxIdeal.Facts] [Cert.CtxRefIdeal.Facts] : Cert.algebraic_CtxIdeal_CtxRefIdeal := by
  intro m g m' g' _ hargs
  refine ⟨_, Cert.CtxIdeal.Value.run_blocks m g, ?_⟩
  refine (θ_run _ _ _).mono (fun r h c => ?_) (Cert.CtxRefIdeal.Value.run m' g')
  obtain ⟨r0, keep⟩ := h c
  obtain ⟨a0, a1, a2⟩ := hargs c
  refine ⟨r0.trans ?_, keep⟩
  refine (Cert.CtxRefIdeal.Read.val_main_v22_eq _ _ _).trans ?_
  rw [a0, a1, a2]; exact (Cert.CtxIdeal.Out.final m c).symm

/-- The experts: the kernel's output and the reference's result are one array. -/
theorem algebraic_peer [Cert.PeerIdeal.Facts] [Cert.PeerRefIdeal.Facts] : Cert.algebraic_PeerIdeal_PeerRefIdeal := by
  intro m g m' g' _ hargs
  refine ⟨_, Cert.PeerIdeal.Value.run_blocks m g, ?_⟩
  refine (θ_run _ _ _).mono (fun r h c => ?_) (Cert.PeerRefIdeal.Value.run m' g')
  obtain ⟨r0, keep⟩ := h c
  obtain ⟨a0, a1, a2, a3, a4, a5, a6, a7, a8, a9, a10⟩ := hargs c
  refine ⟨r0.trans ?_, keep⟩
  refine (Cert.PeerRefIdeal.Read.val_main_v64_eq _ _).trans ?_
  rw [a0, a1, a2, a3, a4, a5, a6, a7, a8, a9, a10]; exact (Cert.PeerIdeal.Out.final m c).symm

/-- The reference of neighbourhood attention ends with its arguments unchanged; it has no semaphore. -/
theorem frame_na_ref [Cert.NaRefIdeal.Facts] : Cert.quiescent_NaRefIdeal := fun m ρ _ =>
  (θ_run Cert.NaRefIdeal.defs _ _).mono (fun r h => ⟨fun c => (h c).2, sem_eq_zero_of_no_sems (by decide) r.2⟩)
    (Cert.NaRefIdeal.Value.run m ρ)

/-- The reference of the input projection ends with its arguments unchanged; it has no semaphore. -/
theorem frame_proj_ref [Cert.ProjRefIdeal.Facts] : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run m ρ)

/-- The reference of the output projection ends with its arguments unchanged; it has no semaphore. -/
theorem frame_mix_ref [Cert.MixRefIdeal.Facts] : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run m ρ)

/-- The reference of the context tokens' attention ends with its arguments unchanged; it has no semaphore. -/
theorem frame_ctx_ref [Cert.CtxRefIdeal.Facts] : Cert.quiescent_CtxRefIdeal := fun m ρ _ =>
  (θ_run Cert.CtxRefIdeal.defs _ _).mono (fun r h => ⟨fun c => (h c).2, sem_eq_zero_of_no_sems (by decide) r.2⟩)
    (Cert.CtxRefIdeal.Value.run m ρ)

/-- The reference of the experts ends with its arguments unchanged; it has no semaphore. -/
theorem frame_peer_ref [Cert.PeerRefIdeal.Facts] : Cert.quiescent_PeerRefIdeal := fun m ρ _ =>
  (θ_run Cert.PeerRefIdeal.defs _ _).mono (fun r h => ⟨fun c => (h c).2, sem_eq_zero_of_no_sems (by decide) r.2⟩)
    (Cert.PeerRefIdeal.Value.run m ρ)

/-- The two constants of the experts' activation are named as the reals the reference takes. -/
theorem preserves_peer : Cert.preserves_Peer_PeerIdeal :=
  ⟨IdealRules.named_const.statement Cert.PeerIdeal.κ "gelu_cubic" .bf16 0x3D37#16
      ((12003091 / 268435456 : ℝ) : EReal) rfl,
    IdealRules.named_const.statement Cert.PeerIdeal.κ "gelu_scale" .bf16 0x3F4C#16
      ((6693141 / 8388608 : ℝ) : EReal) rfl⟩

/-- Every claim of the certificate: each program terminates with its arguments unchanged, each idealised kernel is its
    kernel's own text up to the two named constants of the experts, and the idealised kernels compute their references. -/
theorem claim : Cert.Claim := by
  refine ⟨Cert.Na.Gen.facts, Cert.NaIdeal.Gen.facts, Cert.NaRefIdeal.Gen.facts, Cert.Proj.Gen.facts,
    Cert.ProjIdeal.Gen.facts, Cert.ProjRefIdeal.Gen.facts, Cert.Mix.Gen.facts, Cert.MixIdeal.Gen.facts,
    Cert.MixRefIdeal.Gen.facts, Cert.Ctx.Gen.facts, Cert.CtxIdeal.Gen.facts, Cert.CtxRefIdeal.Gen.facts,
    Cert.Peer.Gen.facts, Cert.PeerIdeal.Gen.facts, Cert.PeerRefIdeal.Gen.facts, ?_⟩
  exact ⟨fun m ρ _ => Cert.Na.Out.frame m ρ, fun m ρ _ => Cert.NaIdeal.Out.frame m ρ,
    frame_na_ref, fun m ρ _ => Cert.Proj.Gen.frame m ρ,
    fun m ρ _ => Cert.ProjIdeal.Gen.frame m ρ, frame_proj_ref,
    fun m ρ _ => Cert.Mix.Gen.frame m ρ, fun m ρ _ => Cert.MixIdeal.Gen.frame m ρ,
    frame_mix_ref, fun m ρ _ => Cert.Ctx.Gen.frame m ρ, fun m ρ _ => Cert.CtxIdeal.Gen.frame m ρ, frame_ctx_ref,
    fun m ρ _ => Cert.Peer.Gen.frame m ρ, fun m ρ _ => Cert.PeerIdeal.Gen.frame m ρ, frame_peer_ref,
    trivial, algebraic_na, trivial, algebraic_proj, trivial, algebraic_mix, trivial, algebraic_ctx, preserves_peer, algebraic_peer⟩

end Cert.Proof

end
